-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨3, ![2, 512, 512]⟩ ⟨3, ![2, 1024, 512]⟩ (Layout.meshBlock [2, 2] ![[], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![2, 512, 512]⟩ ⟨3, ![2, 1024, 512]⟩ (Layout.meshBlock [2, 2] ![[], [0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 512]⟩ ⟨3, ![2, 1024, 512]⟩ (Layout.meshBlock [2, 2] ![[], [0], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![2, 512, 512]⟩ ⟨3, ![2, 1024, 512]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel

variable [Facts]

def fn {F : FTy → Type} [FloatOps F] (main_arg0 : FVec F S2x512x512 .bf16) (main_arg1 : FVec F S2x512x512 .bf16) (main_arg2 : FVec F S2x512x512 .bf16) : IVec S_ 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .bf16 := Host.absf main_arg1
  let main_cst_0 : FVec F S_ .bf16 := constant S_ .bf16 0x7F80#16
  let main_v5 : FVec F S2x512x512 .bf16 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  main_v8
-- ==== Pre_finite_ReferenceIdeal.lean ====
abbrev S2x1024x512 : Shape := ⟨3, ![2, 1024, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel

variable [Facts]

def fn {F : FTy → Type} [FloatOps F] (main_arg0 : FVec F S2x1024x512 .bf16) (main_arg1 : FVec F S2x1024x512 .bf16) (main_arg2 : FVec F S2x1024x512 .bf16) : IVec S_ 1 :=
  let main_v0 : FVec F S2x1024x512 .bf16 := Host.absf main_arg0
  let main_cst : FVec F S_ .bf16 := constant S_ .bf16 0x7F80#16
  let main_v1 : FVec F S2x1024x512 .bf16 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S2x1024x512 .bf16 := Host.absf main_arg1
  let main_cst_0 : FVec F S_ .bf16 := constant S_ .bf16 0x7F80#16
  let main_v5 : FVec F S2x1024x512 .bf16 := broadcastInDim S2x1024x512 ![] bcast_S_S2x1024x512 main_cst_0
  let main_v6 : IVec S2x1024x512 1 := cmpf .olt main_v4 main_v5
  let main_c_1 : IVec S_ 1 := constantI S_ 1 1#1
  let main_v7 : IVec S_ 1 := (fun x v => Host.reduce IntOp.andi x v reducesTo_S2x1024x512_S_d0_1_2 h_S_) main_v6 main_c_1
  let main_v8 : IVec S_ 1 := andi main_v3 main_v7
  main_v8
-- ==== Kernel.lean ====
abbrev S2x512x512 : Shape := ⟨3, ![2, 512, 512]⟩
abbrev S2x2x2x512x512 : Shape := ⟨5, ![2, 2, 2, 512, 512]⟩
abbrev S4 : Shape := ⟨1, ![4]⟩
abbrev S_ : Shape := ⟨0, ![]⟩
abbrev S1x512x512 : Shape := ⟨3, ![1, 512, 512]⟩
abbrev S512x512 : Shape := ⟨2, ![512, 512]⟩
abbrev S1x1x1x512x512 : Shape := ⟨5, ![1, 1, 1, 512, 512]⟩
abbrev S1 : Shape := ⟨1, ![1]⟩
abbrev S1x1x1x256x512 : Shape := ⟨5, ![1, 1, 1, 256, 512]⟩
abbrev S256x512 : Shape := ⟨2, ![256, 512]⟩
abbrev S512x8 : Shape := ⟨2, ![512, 8]⟩
abbrev S1x512x64 : Shape := ⟨3, ![1, 512, 64]⟩
abbrev S512x64 : Shape := ⟨2, ![512, 64]⟩
abbrev S1x1x1x512x64 : Shape := ⟨5, ![1, 1, 1, 512, 64]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x512x512, .bf16⟩
  | .hbm, ⟨1, _⟩ => ⟨S2x512x512, .bf16⟩
  | .hbm, ⟨2, _⟩ => ⟨S2x512x512, .bf16⟩
  | .hbm, ⟨3, _⟩ => ⟨S2x512x512, .f32⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .f32⟩
  | .local _ .vmem, ⟨4, _⟩ => ⟨S2x2x2x512x512, .bf16⟩
  | _, _ => ⟨S2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 5 → Nat :=
  let c1_i32_44 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_45 : BitVec 32 := 0#32
  let c0_i32_51 : BitVec 32 := 0#32
  let c0_i32_52 : BitVec 32 := 0#32
  ![1, v5.toNat, 0, 0, 0]
def k0_off2 (d0 : Dev nD) : Fin 5 → Nat :=
  let c0_i32_42 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_43 : BitVec 32 := 0#32
  let c0_i32_53 : BitVec 32 := 0#32
  let c0_i32_54 : BitVec 32 := 0#32
  ![0, v5.toNat, 0, 0, 0]
def k0_dev3 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v37 : BitVec 32 := Scalar.muli v6 c2_i32_48
  let v38 : BitVec 32 := Scalar.addi c0_i32_49 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v39 : BitVec 32 := Scalar.muli v5 c1_i32_50
  let v40 : BitVec 32 := Scalar.addi v38 v39
  v40.toNat
def k0_off3 (d0 : Dev nD) : Fin 5 → Nat :=
  let c1_i32_57 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_58 : BitVec 32 := 0#32
  let c256_i32 : BitVec 32 := 256#32
  let c0_i32_64 : BitVec 32 := 0#32
  ![1, v5.toNat, 0, 256, 0]
def k0_off4 (d0 : Dev nD) : Fin 5 → Nat :=
  let c0_i32_55 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_56 : BitVec 32 := 0#32
  let c256_i32_65 : BitVec 32 := 256#32
  let c0_i32_66 : BitVec 32 := 0#32
  ![0, v5.toNat, 0, 256, 0]
def k0_dev4 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v49 : BitVec 32 := Scalar.muli v6 c2_i32_61
  let v50 : BitVec 32 := Scalar.addi c0_i32_62 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v51 : BitVec 32 := Scalar.muli v5 c1_i32_63
  let v52 : BitVec 32 := Scalar.addi v50 v51
  v52.toNat
def k0_off5 (d0 : Dev nD) : Fin 5 → Nat :=
  let c1_i32_69 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let c0_i32_76 : BitVec 32 := 0#32
  let c0_i32_77 : BitVec 32 := 0#32
  ![1, v5.toNat, 1, 0, 0]
def k0_off6 (d0 : Dev nD) : Fin 5 → Nat :=
  let c0_i32_67 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let c0_i32_78 : BitVec 32 := 0#32
  let c0_i32_79 : BitVec 32 := 0#32
  ![0, v5.toNat, 1, 0, 0]
def k0_dev5 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v61 : BitVec 32 := Scalar.muli v6 c2_i32_73
  let v62 : BitVec 32 := Scalar.addi c0_i32_74 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v63 : BitVec 32 := Scalar.muli v5 c1_i32_75
  let v64 : BitVec 32 := Scalar.addi v62 v63
  v64.toNat
def k0_off7 (d0 : Dev nD) : Fin 5 → Nat :=
  let c1_i32_82 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let c256_i32_88 : BitVec 32 := 256#32
  let c0_i32_89 : BitVec 32 := 0#32
  ![1, v5.toNat, 1, 256, 0]
def k0_off8 (d0 : Dev nD) : Fin 5 → Nat :=
  let c0_i32_80 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let c256_i32_90 : BitVec 32 := 256#32
  let c0_i32_91 : BitVec 32 := 0#32
  ![0, v5.toNat, 1, 256, 0]
def k0_dev6 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v73 : BitVec 32 := Scalar.muli v6 c2_i32_85
  let v74 : BitVec 32 := Scalar.addi c0_i32_86 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v75 : BitVec 32 := Scalar.muli v5 c1_i32_87
  let v76 : BitVec 32 := Scalar.addi v74 v75
  v76.toNat
def k0_dev7 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v196 : BitVec 32 := Scalar.muli v2 c2_i32_220
  let v197 : BitVec 32 := Scalar.addi c0_i32_221 v196
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_222 : BitVec 32 := 1#32
  let v198 : BitVec 32 := Scalar.muli v7 c1_i32_222
  let v199 : BitVec 32 := Scalar.addi v197 v198
  v199.toNat
def k0_dev8 (d0 : Dev nD) : Nat :=
  let c0_i32_299 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_298 : BitVec 32 := 2#32
  let v254 : BitVec 32 := Scalar.muli v2 c2_i32_298
  let v255 : BitVec 32 := Scalar.addi c0_i32_299 v254
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_300 : BitVec 32 := 1#32
  let v256 : BitVec 32 := Scalar.muli v7 c1_i32_300
  let v257 : BitVec 32 := Scalar.addi v255 v256
  v257.toNat
def k0_dev9 (d0 : Dev nD) : Nat :=
  let c0_i32_377 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_376 : BitVec 32 := 2#32
  let v312 : BitVec 32 := Scalar.muli v2 c2_i32_376
  let v313 : BitVec 32 := Scalar.addi c0_i32_377 v312
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_378 : BitVec 32 := 1#32
  let v314 : BitVec 32 := Scalar.muli v7 c1_i32_378
  let v315 : BitVec 32 := Scalar.addi v313 v314
  v315.toNat
def k0_dev10 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v370 : BitVec 32 := Scalar.muli v2 c2_i32_454
  let v371 : BitVec 32 := Scalar.addi c0_i32_455 v370
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_456 : BitVec 32 := 1#32
  let v372 : BitVec 32 := Scalar.muli v7 c1_i32_456
  let v373 : BitVec 32 := Scalar.addi v371 v372
  v373.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_461 : BitVec 32 := 0#32
  let v382 : BitVec 1 := Scalar.cmpi .eq v5 c0_i32_461
  let v383 : BitVec 32 := Scalar.extui v382
  let c0_i32_486 : BitVec 32 := 0#32
  let v384 : BitVec 1 := Scalar.cmpi .ne v383 c0_i32_486
  v384

def k0_off9 (d0 : Dev nD) : Fin 5 → Nat :=
  let c1_i32_464 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_465 : BitVec 32 := 0#32
  let c0_i32_708 : BitVec 32 := 0#32
  let c0_i32_709 : BitVec 32 := 0#32
  ![1, v5.toNat, 0, 0, 0]
def k0_off10 (d0 : Dev nD) : Fin 5 → Nat :=
  let c1_i32_470 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_471 : BitVec 32 := 0#32
  let c256_i32_715 : BitVec 32 := 256#32
  let c0_i32_716 : BitVec 32 := 0#32
  ![1, v5.toNat, 0, 256, 0]
def k0_off11 (d0 : Dev nD) : Fin 5 → Nat :=
  let c1_i32_476 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_477 : BitVec 32 := 1#32
  let c0_i32_722 : BitVec 32 := 0#32
  let c0_i32_723 : BitVec 32 := 0#32
  ![1, v5.toNat, 1, 0, 0]
def k0_off12 (d0 : Dev nD) : Fin 5 → Nat :=
  let c1_i32_482 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_483 : BitVec 32 := 1#32
  let c256_i32_729 : BitVec 32 := 256#32
  let c0_i32_730 : BitVec 32 := 0#32
  ![1, v5.toNat, 1, 256, 0]
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_487 : BitVec 32 := 1#32
  let v385 : BitVec 1 := Scalar.cmpi .eq v5 c1_i32_487
  let v386 : BitVec 32 := Scalar.extui v385
  let c0_i32_512 : BitVec 32 := 0#32
  let v387 : BitVec 1 := Scalar.cmpi .ne v386 c0_i32_512
  v387

def k0_off13 (d0 : Dev nD) : Fin 5 → Nat :=
  let c1_i32_490 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_491 : BitVec 32 := 0#32
  let c0_i32_708 : BitVec 32 := 0#32
  let c0_i32_709 : BitVec 32 := 0#32
  ![1, v5.toNat, 0, 0, 0]
def k0_off14 (d0 : Dev nD) : Fin 5 → Nat :=
  let c1_i32_496 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_497 : BitVec 32 := 0#32
  let c256_i32_715 : BitVec 32 := 256#32
  let c0_i32_716 : BitVec 32 := 0#32
  ![1, v5.toNat, 0, 256, 0]
def k0_off15 (d0 : Dev nD) : Fin 5 → Nat :=
  let c1_i32_502 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_503 : BitVec 32 := 1#32
  let c0_i32_722 : BitVec 32 := 0#32
  let c0_i32_723 : BitVec 32 := 0#32
  ![1, v5.toNat, 1, 0, 0]
def k0_off16 (d0 : Dev nD) : Fin 5 → Nat :=
  let c1_i32_508 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_509 : BitVec 32 := 1#32
  let c256_i32_729 : BitVec 32 := 256#32
  let c0_i32_730 : BitVec 32 := 0#32
  ![1, v5.toNat, 1, 256, 0]
abbrev stage0_0 : Fin 1 → Memref sig .tc .vmem S2x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x512 : Shape := ⟨3, ![2, 1024, 512]⟩
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S2x1024x512, .bf16⟩
  | .hbm, ⟨2, _⟩ => ⟨S2x1024x512, .bf16⟩
  | .hbm, ⟨3, _⟩ => ⟨S2x1024x512, .f32⟩
  | .hbm, ⟨4, _⟩ => ⟨S2x1024x8x64, .f32⟩
  | .hbm, ⟨5, _⟩ => ⟨S2x1024x512, .f32⟩
  | .hbm, ⟨6, _⟩ => ⟨S2x1024x8x64, .f32⟩
  | .hbm, ⟨7, _⟩ => ⟨S2x1024x512, .f32⟩
  | .hbm, ⟨8, _⟩ => ⟨S2x1024x8x64, .f32⟩
  | .hbm, ⟨9, _⟩ => ⟨S2x8x1024x1024, .f32⟩
  | .hbm, ⟨10, _⟩ => ⟨S_, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x1024x1024, .f32⟩
  | .hbm, ⟨19, _⟩ => ⟨S_, .f32⟩
  | .hbm, ⟨20, _⟩ => ⟨S2x8x1024, .f32⟩
  | .hbm, ⟨21, _⟩ => ⟨S2x8x1024x1, .f32⟩
  | .hbm, ⟨22, _⟩ => ⟨S2x8x1024x1024, .f32⟩
  | .hbm, ⟨23, _⟩ => ⟨S2x8x1024x1024, .f32⟩
  | .hbm, ⟨24, _⟩ => ⟨S2x8x64x1024, .f32⟩
  | .hbm, ⟨25, _⟩ => ⟨S2x1024x8x64, .f32⟩
  | .hbm, ⟨26, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Comm.lean ====
/-
# Comm — the exchange of the key and value blocks between four devices, as a protocol

The mesh is 2 × 2; device `c` stands at row `c / 2` (its block of the sequence) and column `c % 2`. Its partner across
the rows is `xp c`, across the columns `yp c`. The buffer `kv` has two slots; slot 0 holds the device's own block of
keys and values for both batches, slot 1 comes to hold the other row's block:

* batch `y c` of slot 1 comes straight from `xp c`, in four pieces (keys, values; two halves of the rows each);
* batch `1 - y c` of slot 1 comes from `yp c`, which passes on the pieces it received itself.

A device's semaphore cells: the barrier cell, and four families of four DMA cells, `(k, i)` for piece `i` —
 `k = 0` the direct send, `1` the direct arrival, `2` the forwarded send, `3` the forwarded arrival.
* The barrier cell has two duties of one unit: `false`, paid by `xp c`, hands over batch `y c` of slot 1 on `xp c`;
  `true`, paid by `yp c`, hands over batch `y c` of slot 1 on `yp c`. These are where `c` will write.
* An arrival cell has one duty, the piece landed; a send cell one duty, half a share of the piece it read from: while
  a piece is on its way the kernel goes on reading it through the other half.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds library's ghost state for the exchange, beside the pipeline's own. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The mesh -/

/-- The device's column: the batch whose pieces it receives directly. -/
abbrev yc (c : Dev nD) : ℕ := c.val % 2
/-- The partner in the other row, same column. -/
def xp (c : Dev nD) : Dev nD := ⟨(c.val % 2 + 2) - 2 * (c.val / 2), by revert c; decide⟩
/-- The partner in the other column, same row. -/
def yp (c : Dev nD) : Dev nD := ⟨(2 * (c.val / 2) + 1) - c.val % 2, by revert c; decide⟩

theorem xp_xp (c : Dev nD) : xp (xp c) = c := by revert c; decide
theorem yp_yp (c : Dev nD) : yp (yp c) = c := by revert c; decide
theorem yc_xp (c : Dev nD) : yc (xp c) = yc c := by revert c; decide
theorem yc_yp (c : Dev nD) : yc (yp c) = 1 - yc c := by revert c; decide
theorem yc_lt (c : Dev nD) : yc c < 2 := Nat.mod_lt _ (by decide)

def xSwap : Dev nD ≃ Dev nD := ⟨xp, xp, xp_xp, xp_xp⟩
def ySwap : Dev nD ≃ Dev nD := ⟨yp, yp, yp_yp, yp_yp⟩

/-! ## Memrefs and cells -/

abbrev qM : Memref sig .tc .vmem S2x512x512 .bf16 := Memref.whole cc0_stg0_0
abbrev kM : Memref sig .tc .vmem S2x512x512 .bf16 := Memref.whole cc0_stg1_0
abbrev vM : Memref sig .tc .vmem S2x512x512 .bf16 := Memref.whole cc0_stg2_0
abbrev oM : Memref sig .tc .vmem S2x512x512 .f32 := Memref.whole cc0_stg3_0
abbrev kvM : Memref sig .tc .vmem S2x2x2x512x512 .bf16 := Memref.whole cc0_scratch0

/-- Family `k` and piece `i` of a DMA cell (see the head of this file). -/
abbrev J : Type := Fin 4 × Fin 4

/-- The kernel's own DMA semaphore of family `k` for piece `i`. -/
abbrev dS (j : J) : DmaSem sig :=
  ⟨4 + 4 * j.1.val + j.2.val, by have := j.1.isLt; have := j.2.isLt; show 4 + 4 * j.1.val + j.2.val < 20; omega⟩
abbrev bS : Sem sig := (SemArray.scalar (sig.barrier 0 rfl) : Sems sig S_).sem

abbrev osem : J → SemLoc sig := fun j => .dma (dS j)
/-- All the cells of one device: the barrier's, and the DMA cells. -/
abbrev csem : Option J → SemLoc sig := fun | none => .reg bS | some j => .dma (dS j)
abbrev bCell (c : Dev nD) : GSem nD τ sig := ((c : Thread nD τ), .reg bS)
abbrev dCell (c : Dev nD) (j : J) : GSem nD τ sig := ((c : Thread nD τ), .dma (dS j))
abbrev kcell (ck : Dev nD × Option J) : GSem nD τ sig := ((ck.1 : Thread nD τ), csem ck.2)

theorem csem_injective : Function.Injective csem := by decide

theorem kcell_injective : Function.Injective (kcell : Dev nD × Option J → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one piece: 256 rows of 512. -/
abbrev N : ℕ := RefSig.tileCredit S256x512 .bf16
theorem N_pos : 0 < N := RefSig.tileCredit_pos _ _ (by decide)

/-! ## The elements of the exchanged buffer -/

abbrev KvIdx : Type := S2x2x2x512x512.Idx

/-- Batch `b` of slot `s`: keys and values. -/
def blk (s b : ℕ) : Finset KvIdx := Finset.univ.filter fun i => (i 0).val = s ∧ (i 1).val = b
/-- Piece `p` of batch `b` of slot `s`: half `p % 2` of the rows of the keys (`p / 2 = 0`) or the values. -/
def piece (s b p : ℕ) : Finset KvIdx :=
  Finset.univ.filter fun i => (i 0).val = s ∧ (i 1).val = b ∧ (i 2).val = p / 2 ∧ (i 3).val / 256 = p % 2

theorem mem_blk {s b : ℕ} {i : KvIdx} : i ∈ blk s b ↔ (i 0).val = s ∧ (i 1).val = b := by simp [blk]
theorem mem_piece {s b p : ℕ} {i : KvIdx} :
    i ∈ piece s b p ↔ (i 0).val = s ∧ (i 1).val = b ∧ (i 2).val = p / 2 ∧ (i 3).val / 256 = p % 2 := by simp [piece]

theorem blk_pieces (s b : ℕ) : blk s b = (Finset.univ : Finset (Fin 4)).biUnion fun p => piece s b p.val := by
  ext i
  rw [mem_blk, Finset.mem_biUnion]
  constructor
  · rintro ⟨h0, h1⟩
    have h2 : (i 2).val < 2 := (i 2).isLt
    have h3 : (i 3).val < 512 := (i 3).isLt
    refine ⟨⟨2 * (i 2).val + (i 3).val / 256, by omega⟩, Finset.mem_univ _, mem_piece.mpr ⟨h0, h1, ?_, ?_⟩⟩ <;> dsimp only <;> omega
  · rintro ⟨p, -, h⟩
    exact ⟨(mem_piece.mp h).1, (mem_piece.mp h).2.1⟩

theorem disj_pieces (s b : ℕ) : ∀ p ∈ (Finset.univ : Finset (Fin 4)), ∀ p' ∈ (Finset.univ : Finset (Fin 4)), p ≠ p' →
    Disjoint (piece s b p.val) (piece s b p'.val) := fun p _ p' _ h => by
  refine Finset.disjoint_left.mpr fun i hi hi' => h (Fin.ext ?_)
  have h1 := mem_piece.mp hi
  have h2 := mem_piece.mp hi'
  omega
theorem disj_batch (s b b' : ℕ) (h : b ≠ b') : Disjoint (blk s b) (blk s b') :=
  Finset.disjoint_left.mpr fun i hi hi' => by have h1 := mem_blk.mp hi; have h2 := mem_blk.mp hi'; omega

/-! ## Contents -/

/-- The memory at launch: arbitrary contents, every semaphore counter zero, arbitrary generator registers. -/
def s₀ : MemSt nD τ sig (Elt F) := ⟨m, fun _ => 0, ρ⟩

/-- The blocks of queries, keys and values as staged on device `c`. -/
def qst (c : Dev nD) : (cc0_stg0_0 : Ref sig .tc).ty.Contents (Elt F) :=
  (win0_0.blk (0 : Fin 1)).view.read (Elt F) ((s₀ m ρ).mem ((c : Thread nD τ).loc main_arg0))
def kst (c : Dev nD) : (cc0_stg1_0 : Ref sig .tc).ty.Contents (Elt F) :=
  (win0_1.blk (0 : Fin 1)).view.read (Elt F) ((s₀ m ρ).mem ((c : Thread nD τ).loc main_arg1))
def vst (c : Dev nD) : (cc0_stg2_0 : Ref sig .tc).ty.Contents (Elt F) :=
  (win0_2.blk (0 : Fin 1)).view.read (Elt F) ((s₀ m ρ).mem ((c : Thread nD τ).loc main_arg2))

/-- The device whose block slot `s`, batch `b` on device `c` comes to hold: its own, or the one of the other row that
    stands in column `b`. -/
def owner (c : Dev nD) (s b : ℕ) : Dev nD := if s = 0 then c else if b = yc c then xp c else xp (yp c)

theorem owner_zero (c : Dev nD) (b : ℕ) : owner c 0 b = c := if_pos rfl
theorem owner_direct (c : Dev nD) : owner c 1 (yc c) = xp c := by unfold owner; rw [if_neg (by decide), if_pos rfl]
theorem owner_passed (c : Dev nD) : owner (yp c) 1 (yc c) = xp c := by
  unfold owner; rw [if_neg (by decide), if_neg (by rw [yc_yp]; have := yc_lt c; omega), yp_yp]

/-- The contents the exchanged buffer comes to on device `c`. -/
def KV (c : Dev nD) : Buf (Elt F) ((c : Thread nD τ).loc cc0_scratch0) := fun (i : KvIdx) =>
  if (i 2).val = 0 then kst m ρ (owner c (i 0).val (i 1).val) (ix3 (i 1) (i 3) (i 4))
  else vst m ρ (owner c (i 0).val (i 1).val) (ix3 (i 1) (i 3) (i 4))

/-- Elements `S` of the exchanged buffer on `c`, at share `q`, holding `f`. -/
abbrev kvP (c : Dev nD) (S : Finset KvIdx) (q : PosShare TreeShare) (f : Buf (Elt F) ((c : Thread nD τ).loc cc0_scratch0)) : sProp 𝕄 :=
  ((c : Thread nD τ).loc cc0_scratch0) ↦[S]{q} f

omit [FloatOps F] in
theorem kv_pieces (c : Dev nD) (s b : ℕ) (q : PosShare TreeShare) (f) :
    (kvP c (blk s b) q f : sProp 𝕄) = iprop(kvP c (piece s b 0) q f ∗ kvP c (piece s b 1) q f ∗ kvP c (piece s b 2) q f ∗ kvP c (piece s b 3) q f) := by
  rw [blk_pieces]
  refine (pointsTo_biUnion (ℓ := (c : Thread nD τ).loc cc0_scratch0) (T := Fin 4) Finset.univ (fun p => piece s b p.val) (disj_pieces s b)).trans ?_
  exact bigSep_univ_eq_bigSepL [0, 1, 2, 3] (by decide) (by decide) _

omit [FloatOps F] in
theorem kv_halves (c : Dev nD) (S : Finset KvIdx) (f) :
    (kvP c S fullShare f : sProp 𝕄) ⊣⊢ iprop(kvP c S fullShare.left f ∗ kvP c S fullShare.right f) :=
  pointsTo_share (PosShare.mem_left_op_right fullShare)

/-! ## The schedule -/

/-- What the barrier's duty hands over: batch `yc c` of slot 1 on the partner that pays it. -/
def barPay (c : Dev nD) (d : Bool) : sProp 𝕄 :=
  iprop(∃ f, kvP (if d then yp c else xp c) (blk 1 (yc c)) fullShare f)
/-- What family `k`'s cell for piece `p` hands over. -/
def dmaPay (c : Dev nD) (k p : ℕ) : sProp 𝕄 :=
  kvP c (piece (if k = 0 then 0 else 1) (if k = 3 then 1 - yc c else yc c) p) (if k % 2 = 0 then fullShare.right else fullShare) (KV m ρ c)

omit [FloatOps F] in
instance barPay_storable (c : Dev nD) (d : Bool) : BI.Storable (upEmb : UEmb _ 𝕄) (barPay (F := F) c d) := by unfold barPay; infer_instance
instance dmaPay_storable (c : Dev nD) (k p : ℕ) : BI.Storable (upEmb : UEmb _ 𝕄) (dmaPay (F := F) m ρ c k p) := by unfold dmaPay; infer_instance

def Rd : Rounds.Schedule (GSem nD τ sig) Bool 𝕄 where
  duties g r := if r = 0 ∧ g.1.2 = .tc ∧ g.2 = .reg bS then Finset.univ
    else if r = 0 ∧ g.1.2 = .tc ∧ ∃ j : J, g.2 = .dma (dS j) then {false} else ∅
  unitless _ := False
  amount g _ _ := match g.2 with | .reg _ => 1 | .dma _ => N
  payload g _ d := match g.2 with
    | .reg _ => barPay g.1.1 d
    | .dma q => dmaPay m ρ g.1.1 ((q.val - 4) / 4) ((q.val - 4) % 4)
  amount_pos g _ _ _ := by
    rcases g with ⟨t, s | q⟩
    · exact Nat.one_pos
    · exact N_pos

instance Rd_payload_storable (g : GSem nD τ sig) (r : ℕ) (d : Bool) :
    BI.Storable (upEmb : UEmb _ 𝕄) ((Rd (F := F) m ρ).payload g r d) := by
  rcases g with ⟨t, s | q⟩
  · exact barPay_storable _ _
  · exact dmaPay_storable _ _ _ _ _

theorem duties_bar (c : Dev nD) : (Rd (F := F) m ρ).duties (bCell c) 0 = Finset.univ := by dsimp only [Rd]; exact if_pos ⟨rfl, rfl, rfl⟩
theorem duties_dma (c : Dev nD) (j : J) : (Rd (F := F) m ρ).duties (dCell c j) 0 = {false} := by
  dsimp only [Rd]; rw [if_neg (fun h => by cases h.2.2)]; exact if_pos ⟨rfl, rfl, j, rfl⟩
theorem duties_later (g : GSem nD τ sig) : ∀ r, 1 ≤ r → (Rd (F := F) m ρ).duties g r = ∅ :=
  fun r hr => by dsimp only [Rd]; rw [if_neg fun h => by omega, if_neg fun h => by omega]
theorem amount_bar (c : Dev nD) (d : Bool) : (Rd (F := F) m ρ).amount (bCell c) 0 d = 1 := rfl
theorem amount_dma (c : Dev nD) (j : J) (d : Bool) : (Rd (F := F) m ρ).amount (dCell c j) 0 d = N := rfl
theorem expect_bar (c : Dev nD) : (Rd (F := F) m ρ).expect (bCell c) 0 = 2 := by
  unfold Schedule.expect Schedule.amountOf
  rw [duties_bar, Finset.sum_congr rfl fun d _ => amount_bar m ρ c d, Finset.sum_const, Finset.card_univ, Fintype.card_bool, smul_eq_mul]
theorem expect_dma (c : Dev nD) (j : J) : (Rd (F := F) m ρ).expect (dCell c j) 0 = N := by
  unfold Schedule.expect Schedule.amountOf; rw [duties_dma, Finset.sum_singleton, amount_dma]
theorem payload_bar (c : Dev nD) (d : Bool) : (Rd (F := F) m ρ).payload (bCell c) 0 d = barPay c d := rfl
theorem payload_dma (c : Dev nD) (j : J) (d : Bool) : (Rd (F := F) m ρ).payload (dCell c j) 0 d = dmaPay m ρ c j.1.val j.2.val := by
  have h1 := j.1.isLt; have h2 := j.2.isLt
  show dmaPay m ρ c ((4 + 4 * j.1.val + j.2.val - 4) / 4) ((4 + 4 * j.1.val + j.2.val - 4) % 4) = _
  rw [show (4 + 4 * j.1.val + j.2.val - 4) / 4 = j.1.val by omega, show (4 + 4 * j.1.val + j.2.val - 4) % 4 = j.2.val by omega]
theorem rest_bar (c : Dev nD) : bigSep ((Rd (F := F) m ρ).duties (bCell c) 0 \ ∅) (fun d => (Rd (F := F) m ρ).payload (bCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma (c : Dev nD) (j : J) : bigSep ((Rd (F := F) m ρ).duties (dCell c j) 0 \ ∅) (fun d => (Rd (F := F) m ρ).payload (dCell c j) 0 d)
    = dmaPay m ρ c j.1.val j.2.val := by
  rw [Finset.sdiff_empty, duties_dma, bigSep_singleton, payload_dma]

/-! ## What each device owes, and the levels of the cells -/

/-- What cell `k` of a device is paid at a time. -/
abbrev unit : Option J → ℕ | none => 1 | some _ => N
/-- The tallies of a list of payments, the FIRST in the list the last summand: each payment peels it off. -/
def owe : List (Dev nD × Option J) → CellTallies nD τ sig Unit
  | [] => 0
  | p :: l => owe l + tallyAt (kcell p) () (unit p.2)

/-- The payments of device `c`, in the order it makes them: both barrier units, the four direct transfers, the four
    forwarded ones. -/
def pays (c : Dev nD) : List (Dev nD × Option J) :=
  [(xp c, none), (yp c, none), (xp c, some (1, 0)), (xp c, some (1, 1)), (xp c, some (1, 2)), (xp c, some (1, 3)),
    (yp c, some (3, 0)), (yp c, some (3, 1)), (yp c, some (3, 2)), (yp c, some (3, 3))]

theorem owe_pos : ∀ {l : List (Dev nD × Option J)} {g : GSem nD τ sig} {u : Unit}, 0 < owe l g u → ∃ p ∈ l, g = kcell p
  | [], g, u, h => absurd h (Nat.lt_irrefl 0)
  | p :: l, g, u, h => by
    rw [owe, Pi.add_apply, Finsupp.add_apply, tallyAt_apply] at h
    by_cases hg : g = kcell p ∧ u = ()
    · exact ⟨p, List.mem_cons_self, hg.1⟩
    · rw [if_neg hg, Nat.add_zero] at h
      obtain ⟨p', hp', e⟩ := owe_pos h
      exact ⟨p', List.mem_cons_of_mem _ hp', e⟩

theorem owe_at (l : List (Dev nD × Option J)) (ck : Dev nD × Option J) : owe l (kcell ck) () = l.count ck * unit ck.2 := by
  induction l with
  | nil => rw [List.count_nil, Nat.zero_mul]; rfl
  | cons p l ih =>
    rw [owe, Pi.add_apply, Finsupp.add_apply, tallyAt_apply, ih, List.count_cons]
    by_cases h : p = ck
    · subst h; rw [if_pos ⟨rfl, rfl⟩, if_pos (beq_self_eq_true p), Nat.add_mul, Nat.one_mul]
    · rw [if_neg (fun h' => h (kcell_injective h'.1).symm), if_neg (fun h' => h (eq_of_beq h')), Nat.add_zero, Nat.add_zero]

def L (g : GSem nD τ sig) : Finset Unit := if g.1.2 = .tc then {()} else ∅
/-- Barrier cells at 1, direct arrivals at 2, forwarded arrivals at 3, everything else at 0. -/
def lvS : SemLoc sig → ℕ
  | .reg _ => 1
  | .dma q => if 8 ≤ q.val ∧ q.val < 12 then 2 else if 16 ≤ q.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell below every cell it still owes. -/
theorem mayWait (c : Dev nD) (sm : SemLoc sig) (l : List (Dev nD × Option J)) (h : ∀ p ∈ l, lvS sm < lvS (csem p.2)) :
    (levAts L lv : sProp 𝕄) ⊢ MayWait (c : Thread nD τ) sm () (owe l) :=
  MayOwe.of_cut (L := L) (lev := lv) (lvS sm) (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact le_refl _)
    (fun g u hg => by obtain ⟨p, hp, rfl⟩ := owe_pos hg; exact h p hp)

end Cert.Kernel.Exchange

end
-- ==== Proof.Steps.lean ====
/-
# Steps — the four kinds of step the kernel's body takes, each as one rule

* a transfer of one piece (`wp_send_direct`, `wp_send_forward`, both from `wp_send_piece`);
* a wait on one of the device's own DMA cells (`wp_wait_dma`), which closes the cell at once: its counter at zero comes
  back with what the cell's one duty hands over;
* a store of one plane of the exchanged buffer (`plane_write`, `plane_payload`);
* loads, for which the file says which elements of the exchanged buffer a rectangle reads (`kv_rect_slot`, `kv_rect_blk`).
-/
module

public import proofs.«01_k».proof.Proof.Comm
public import Idealize.ShloMosaic.Lib.Pipeline.Value

@[expose] public section

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

abbrev 𝒱₀ : Variants := Variants.none

/-! ## Rectangles of the exchanged buffer -/

/-- Where piece `p` of batch `b` of slot `s` begins. -/
abbrev offs (s b p : ℕ) : Fin 5 → ℕ := ![s, b, p / 2, 256 * (p % 2), 0]

/-- The piece beginning at `o`, as the kernel addresses it. -/
abbrev pv (o : Fin 5 → ℕ) (h : ∀ a, o a + S1x1x1x256x512.size a ≤ S2x2x2x512x512.size a) : Memref sig .tc .vmem S256x512 .bf16 :=
  ((kvM : Memref sig .tc .vmem S2x2x2x512x512 .bf16).slice (Rect.unit (s := S2x2x2x512x512) o S1x1x1x256x512.size h) (fun _ => rfl)).squeeze
    S256x512 squeezes_S1x1x1x256x512_S256x512

theorem pv_set {o : Fin 5 → ℕ} {h} {s b p : ℕ} (ho : o = offs s b p) : (pv o h).view.set = piece s b p := by
  subst ho
  show ((View.whole cc0_scratch0).slice _ |>.reshape _ _).set = _
  rw [View.set_reshape, View.set_slice_whole]
  ext i
  rw [mem_piece, Rect.mem_set_unit]
  have h4 : (i 4).val < 512 := (i 4).isLt
  constructor
  · intro hi
    have h0 := hi 0; have h1 := hi 1; have h2 := hi 2; have h3 := hi 3
    change s ≤ (i 0).val ∧ (i 0).val < s + 1 at h0
    change b ≤ (i 1).val ∧ (i 1).val < b + 1 at h1
    change p / 2 ≤ (i 2).val ∧ (i 2).val < p / 2 + 1 at h2
    change 256 * (p % 2) ≤ (i 3).val ∧ (i 3).val < 256 * (p % 2) + 256 at h3
    omega
  · rintro ⟨h0, h1, h2, h3⟩ a
    match a with
    | ⟨0, _⟩ => show s ≤ (i 0).val ∧ (i 0).val < s + 1; omega
    | ⟨1, _⟩ => show b ≤ (i 1).val ∧ (i 1).val < b + 1; omega
    | ⟨2, _⟩ => show p / 2 ≤ (i 2).val ∧ (i 2).val < p / 2 + 1; omega
    | ⟨3, _⟩ => show 256 * (p % 2) ≤ (i 3).val ∧ (i 3).val < 256 * (p % 2) + 256; omega
    | ⟨4, _⟩ => show 0 ≤ (i 4).val ∧ (i 4).val < 0 + 512; omega

/-- The element under an index of a piece is the element under the same index of the rectangle, wherever it begins. -/
theorem pv_emb (x : S256x512.Idx) : ∃ y : S1x1x1x256x512.Idx, ∀ (o : Fin 5 → ℕ) (h : ∀ a, o a + S1x1x1x256x512.size a ≤ S2x2x2x512x512.size a),
    (pv o h).view.emb x = (Rect.unit (s := S2x2x2x512x512) o S1x1x1x256x512.size h).emb y :=
  ⟨Shape.reshapeEquiv squeezes_S1x1x1x256x512_S256x512.numel_eq x, fun _ _ => rfl⟩

omit [FloatOps F] in
/-- A piece written with what a piece of another slot read holds the exchanged contents, if the two slots are to hold the
    same device's block. -/
theorem landed_piece (c n : Dev nD) {s s' b p : ℕ} (hs : owner c s b = owner n s' b) {o o' : Fin 5 → ℕ} {h h'}
    (ho : o = offs s b p) (ho' : o' = offs s' b p) (fd : Buf (Elt F) ((n : Thread nD τ).loc cc0_scratch0)) :
    ∀ i ∈ piece s' b p, ((pv o' h').view.write (Elt F) fd ((pv o h).view.read (Elt F) (KV m ρ c)) Finset.univ) i = KV m ρ n i := by
  intro i hi
  rw [← pv_set (h := h') ho'] at hi
  obtain ⟨x, -, rfl⟩ := Finset.mem_map.mp hi
  rw [View.write_emb_of_mem _ _ (Finset.mem_univ x), View.read_apply]
  obtain ⟨y, hy⟩ := pv_emb x
  rw [hy, hy, cast_cast, cast_eq]
  subst ho; subst ho'
  have h0 : (y 0).val = 0 := by have := (y 0).isLt; change (y 0).val < 1 at this; omega
  have h1 : (y 1).val = 0 := by have := (y 1).isLt; change (y 1).val < 1 at this; omega
  show (if (p / 2 + 1 * (y 2).val) = 0 then kst m ρ (owner c (s + 1 * (y 0).val) (b + 1 * (y 1).val)) _ else vst m ρ (owner c (s + 1 * (y 0).val) (b + 1 * (y 1).val)) _)
    = (if (p / 2 + 1 * (y 2).val) = 0 then kst m ρ (owner n (s' + 1 * (y 0).val) (b + 1 * (y 1).val)) _ else vst m ρ (owner n (s' + 1 * (y 0).val) (b + 1 * (y 1).val)) _)
  rw [h0, h1, Nat.mul_zero, Nat.add_zero, Nat.add_zero, Nat.add_zero, hs]
  rfl

/-! ## Records and what is owed -/

/-- Every cell's invariant, under the names `K`, and that every cell is at round 0. -/
def recs (K : Dev nD × Option J → ℕ) : sProp 𝕄 :=
  iprop((bigSep Finset.univ fun ck : Dev nD × Option J => cellInv EX (Rd m ρ) (K ck) (kcell ck))
    ∗ bigSep Finset.univ fun ck : Dev nD × Option J => reached EX (kcell ck) 0)

instance recs_persistent (K : Dev nD × Option J → ℕ) : BI.Persistent (recs (F := F) m ρ K) := by unfold recs; infer_instance

theorem recs_inv (K : Dev nD × Option J → ℕ) (ck : Dev nD × Option J) : recs m ρ K ⊢ cellInv EX (Rd m ρ) (K ck) (kcell ck) := by
  unfold recs
  exact Laws.sep_and.trans (and_elimL.trans (bigSep_elim (Finset.mem_univ ck)))
theorem recs_reached (K : Dev nD × Option J → ℕ) (ck : Dev nD × Option J) : recs m ρ K ⊢ reached EX (kcell ck) 0 := by
  unfold recs
  exact Laws.sep_and.trans (and_elimR.trans (bigSep_elim (Finset.mem_univ ck)))

/-- The device owes the payments of `l`, whatever it has waited for. -/
def owing (c : Dev nD) (l : List (Dev nD × Option J)) : sProp 𝕄 := iprop(∃ W, owes (c : Thread nD τ) (owe l) W)

abbrev credit (c : Dev nD) (j : Option J) (n : ℕ) : sProp 𝕄 := cred (tallyAt (kcell (c, j)) () n)

/-! ## A wait on an own DMA cell -/

theorem wp_wait_dma (K : Dev nD × Option J → ℕ) (c : Dev nD) (j : J) {q : DmaSem sig} (hq : q = dS j) (l : List (Dev nD × Option J))
    (hl : ∀ p ∈ l, lvS (csem (some j)) < lvS (csem p.2))
    {src dst : Memref sig .tc .vmem S256x512 .bf16} {hsrc : src.view.WordExact} {hdst : dst.view.WordExact} (hN : dst.view.amount (.dma q) = N)
    {α : Type} {Q : α → sProp 𝕄} {k : PUnit → Prog (TpuEff nD τ sig (Elt F) Λ₀ .tc) α} :
    iprop(recs m ρ K ∗ levAts L lv ∗ credit c (some j) N ∗ atPos EX (dCell c j) 0 ∅ 0 ∗ owing c l)
      ⊢ iprop(((owing c l ∗ semVal (dCell c j) 0 ∗ dmaPay m ρ c j.1.val j.2.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owing
  iintro ⟨#HR, #HL, Hc, Hat, ⟨%W, HO⟩⟩ Hk
  iapply (Rounds.wp_wait_rest_token 𝒱₀ EX (Rd m ρ) (c : Thread nD τ) none (κ := K (c, some j))
      (wpE_waitDma2_eq 𝒱₀ (c : Thread nD τ) none Set.univ) (Set.mem_univ _) () (O := owe l) (W := W) (R := 0) (m := 0) (T := ∅)
      (by rw [Nat.zero_add, expect_dma])) $$ [Hc HO Hat]
  · isplitr; · iapply (recs_inv m ρ K (c, some j)); iexact HR
    isplitl [Hc]; · iexact Hc
    isplitl [HO]; · iexact HO
    isplitr; · iapply (mayWait c (.dma (dS j)) l hl); iexact HL
    iexact Hat
  iintro ⟨HO, Hat, -, Hpay⟩
  ihave Hp := (Entails.of_eq (rest_dma m ρ c j)) $$ Hpay
  imod (Rounds.cell_close EX (Rd m ρ) (Set.mem_univ (K (c, some j))) (fun h => h) (R := 0 + 1) (duties_later m ρ (dCell c j))) $$ [Hat] with Hz
  · isplitr; · iapply (recs_inv m ρ K (c, some j)); iexact HR
    iexact Hat
  iapply Hk
  isplitl [HO]; · iexists _; iexact HO
  isplitl [Hz] <;> iassumption

/-! ## A transfer of one piece -/

/-- Piece `p` of batch `b` from slot `s` on `c` to slot `s'` on `n`: half a share of it goes to the send cell `jS`, the
    device's own; the piece on `n` is handed over rewritten at cell `jR` of `n`. -/
theorem wp_send_piece (K : Dev nD × Option J → ℕ) (c n : Dev nD) (jS jR : J) {s s' b p : ℕ} (l : List (Dev nD × Option J))
    (hs : owner c s b = owner n s' b)
    (hS : dmaPay (F := F) m ρ c jS.1.val jS.2.val = kvP c (piece s b p) fullShare.right (KV m ρ c))
    (hR : dmaPay (F := F) m ρ n jR.1.val jR.2.val = kvP n (piece s' b p) fullShare (KV m ρ n))
    {d : Dev nD} (hd : d = n) {qS qR : DmaSem sig} (hqS : qS = dS jS) (hqR : qR = dS jR)
    {o o' : Fin 5 → ℕ} {h h'} (ho : o = offs s b p) (ho' : o' = offs s' b p)
    {hsc} {hsrc : (pv o h).view.WordExact} {hdst : (pv o' h').view.WordExact}
    {hsem : DmaTarget.Typed .vmem (.dma qR) (.remote (Dev.tc d : Thread nD τ) (pv o' h') (.dma qS) hsc)}
    (fn : Buf (Elt F) ((n : Thread nD τ).loc cc0_scratch0))
    {α : Type} {Q : α → sProp 𝕄} {k : PUnit → Prog (TpuEff nD τ sig (Elt F) Λ₀ .tc) α} :
    iprop(recs m ρ K ∗ kvP c (piece s b p) fullShare.right (KV m ρ c) ∗ kvP n (piece s' b p) fullShare fn
        ∗ dutyTok EX (dCell c jS) 0 false ∗ dutyTok EX (dCell n jR) 0 false ∗ owing c ((n, some jR) :: l))
      ⊢ iprop(((credit c (some jS) N ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pv o h) (.remote (Dev.tc d : Thread nD τ) (pv o' h') (.dma qS) hsc) (.dma qR) hsrc hdst hsem) k) Q) := by
  subst hd; subst hqS; subst hqR
  unfold owing
  iintro ⟨#HR, Hsrc, Hdst, HtS, HtR, ⟨%W, HO⟩⟩ Hk
  iapply (Rounds.wp_send_pointsTo 𝒱₀ EX (Rd m ρ) (c : Thread nD τ) none (κ₁ := K (c, some jS)) (κ₂ := K (d, some jR))
    (r₁ := 0) (r₂ := 0) (d₁ := false) (d₂ := false) (fs := KV m ρ c) (fd := fn) (q := fullShare.right)
    (by rw [duties_dma]; exact Finset.mem_singleton_self _) (by rw [duties_dma]; exact Finset.mem_singleton_self _)
    () () N rfl (amount_dma m ρ c jS false) (amount_dma m ρ d jR false) (owe l) rfl (W := W)
    (by rw [payload_dma, hS, pv_set ho])
    (by rw [payload_dma, hR, pv_set ho']; exact Entails.of_eq (pointsTo_congr (landed_piece m ρ c d hs ho ho' fn)))) $$ [Hsrc Hdst HtS HtR HO]
  · isplitr; · iapply (recs_inv m ρ K (c, some jS)); iexact HR
    isplitr; · iapply (recs_inv m ρ K (d, some jR)); iexact HR
    isplitl [Hsrc]; · rw [pv_set ho]; iexact Hsrc
    isplitl [Hdst]; · rw [pv_set ho']; iexact Hdst
    isplitl [HO]; · iexact HO
    isplitl [HtS]; · iexact HtS
    isplitr; · iapply (recs_reached m ρ K (c, some jS)); iexact HR
    isplitl [HtR]; · iexact HtR
    iapply (recs_reached m ρ K (d, some jR)); iexact HR
  iintro ⟨Hc, HO⟩
  iapply Hk
  isplitl [Hc]; · iexact Hc
  iexists _; iexact HO

/-! What each family's cell hands over. -/

theorem dmaPay_0 (c : Dev nD) (p : Fin 4) : dmaPay (F := F) m ρ c ((0, p) : J).1.val ((0, p) : J).2.val = kvP c (piece 0 (yc c) p.val) fullShare.right (KV m ρ c) := by
  simp [dmaPay]
theorem dmaPay_1 (c : Dev nD) (p : Fin 4) : dmaPay (F := F) m ρ c ((1, p) : J).1.val ((1, p) : J).2.val = kvP c (piece 1 (yc c) p.val) fullShare (KV m ρ c) := by
  simp [dmaPay]
theorem dmaPay_2 (c : Dev nD) (p : Fin 4) : dmaPay (F := F) m ρ c ((2, p) : J).1.val ((2, p) : J).2.val = kvP c (piece 1 (yc c) p.val) fullShare.right (KV m ρ c) := by
  simp [dmaPay]
theorem dmaPay_3 (c : Dev nD) (p : Fin 4) : dmaPay (F := F) m ρ c ((3, p) : J).1.val ((3, p) : J).2.val = kvP c (piece 1 (1 - yc c) p.val) fullShare (KV m ρ c) := by
  simp [dmaPay]

/-- The direct transfer of piece `p`, to the other row. -/
theorem wp_send_direct (K : Dev nD × Option J → ℕ) (c : Dev nD) (p : Fin 4) (l : List (Dev nD × Option J))
    {d : Dev nD} (hd : d = xp c) {qS qR : DmaSem sig} (hqS : qS = dS (0, p)) (hqR : qR = dS (1, p))
    {o o' : Fin 5 → ℕ} {h h'} (ho : o = offs 0 (yc c) p.val) (ho' : o' = offs 1 (yc c) p.val)
    {hsc} {hsrc : (pv o h).view.WordExact} {hdst : (pv o' h').view.WordExact}
    {hsem : DmaTarget.Typed .vmem (.dma qR) (.remote (Dev.tc d : Thread nD τ) (pv o' h') (.dma qS) hsc)}
    (fn : Buf (Elt F) ((xp c : Thread nD τ).loc cc0_scratch0))
    {α : Type} {Q : α → sProp 𝕄} {k : PUnit → Prog (TpuEff nD τ sig (Elt F) Λ₀ .tc) α} :
    iprop(recs m ρ K ∗ kvP c (piece 0 (yc c) p.val) fullShare.right (KV m ρ c) ∗ kvP (xp c) (piece 1 (yc c) p.val) fullShare fn
        ∗ dutyTok EX (dCell c (0, p)) 0 false ∗ dutyTok EX (dCell (xp c) (1, p)) 0 false ∗ owing c ((xp c, some (1, p)) :: l))
      ⊢ iprop(((credit c (some (0, p)) N ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pv o h) (.remote (Dev.tc d : Thread nD τ) (pv o' h') (.dma qS) hsc) (.dma qR) hsrc hdst hsem) k) Q) :=
  wp_send_piece m ρ K c (xp c) (0, p) (1, p) (s := 0) (s' := 1) (b := yc c) (p := p.val) l (by rw [owner_zero, ← yc_xp c, owner_direct, xp_xp]) (dmaPay_0 m ρ c p)
    (by rw [← yc_xp c]; exact dmaPay_1 m ρ (xp c) p) hd hqS hqR ho ho' fn

/-- The forwarded transfer of piece `p`, to the other column: the piece the device received directly. -/
theorem wp_send_forward (K : Dev nD × Option J → ℕ) (c : Dev nD) (p : Fin 4) (l : List (Dev nD × Option J))
    {d : Dev nD} (hd : d = yp c) {qS qR : DmaSem sig} (hqS : qS = dS (2, p)) (hqR : qR = dS (3, p))
    {o o' : Fin 5 → ℕ} {h h'} (ho : o = offs 1 (yc c) p.val) (ho' : o' = offs 1 (yc c) p.val)
    {hsc} {hsrc : (pv o h).view.WordExact} {hdst : (pv o' h').view.WordExact}
    {hsem : DmaTarget.Typed .vmem (.dma qR) (.remote (Dev.tc d : Thread nD τ) (pv o' h') (.dma qS) hsc)}
    (fn : Buf (Elt F) ((yp c : Thread nD τ).loc cc0_scratch0))
    {α : Type} {Q : α → sProp 𝕄} {k : PUnit → Prog (TpuEff nD τ sig (Elt F) Λ₀ .tc) α} :
    iprop(recs m ρ K ∗ kvP c (piece 1 (yc c) p.val) fullShare.right (KV m ρ c) ∗ kvP (yp c) (piece 1 (yc c) p.val) fullShare fn
        ∗ dutyTok EX (dCell c (2, p)) 0 false ∗ dutyTok EX (dCell (yp c) (3, p)) 0 false ∗ owing c ((yp c, some (3, p)) :: l))
      ⊢ iprop(((credit c (some (2, p)) N ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (pv o h) (.remote (Dev.tc d : Thread nD τ) (pv o' h') (.dma qS) hsc) (.dma qR) hsrc hdst hsem) k) Q) :=
  wp_send_piece m ρ K c (yp c) (2, p) (3, p) (s := 1) (s' := 1) (b := yc c) (p := p.val) l (by rw [owner_direct, owner_passed]) (dmaPay_2 m ρ c p)
    ((dmaPay_3 m ρ (yp c) p).trans (by rw [yc_yp, Nat.sub_sub_self (Nat.le_of_lt_succ (yc_lt c))])) hd hqS hqR ho ho' fn

/-! ## Loads and stores of the exchanged buffer -/

/-- All of slot `s`. -/
def slot (s : ℕ) : Finset KvIdx := Finset.univ.filter fun i => (i 0).val = s
theorem mem_slot {s : ℕ} {i : KvIdx} : i ∈ slot s ↔ (i 0).val = s := by simp [slot]

/-- A rectangle within slot `s` reads elements of slot `s` only. -/
theorem kv_rect_slot {o sz : Fin 5 → ℕ} {h} {s : ℕ} (hs : o 0 = s) (hz : sz 0 = 1) :
    (kvM : Memref sig .tc .vmem S2x2x2x512x512 .bf16).view.setOn (Rect.unit (s := S2x2x2x512x512) o sz h).toLoadRect.set ⊆ slot s := by
  intro i hi
  obtain ⟨j, hj, rfl⟩ := Finset.mem_map.mp hi
  have h0 := Rect.mem_set_unit.mp hj 0
  rw [hs, hz] at h0
  refine mem_slot.mpr (?_ : (j 0).val = s)
  omega

/-- A rectangle within batch `b` of slot `s` reads elements of that batch only. -/
theorem kv_rect_blk {o sz : Fin 5 → ℕ} {h} {s b : ℕ} (hs : o 0 = s) (hb : o 1 = b) (hz : sz 0 = 1) (hz' : sz 1 = 1) :
    (kvM : Memref sig .tc .vmem S2x2x2x512x512 .bf16).view.setOn (Rect.unit (s := S2x2x2x512x512) o sz h).toLoadRect.set ⊆ blk s b := by
  intro i hi
  obtain ⟨j, hj, rfl⟩ := Finset.mem_map.mp hi
  have h0 := Rect.mem_set_unit.mp hj 0
  have h1 := Rect.mem_set_unit.mp hj 1
  rw [hs, hz] at h0; rw [hb, hz'] at h1
  refine mem_blk.mpr (⟨?_, ?_⟩ : (j 0).val = s ∧ (j 1).val = b) <;> omega

/-- Where the plane of batch `b` of slot 0 (keys `t = 0`, values `t = 1`) begins. -/
abbrev planeR (b t : ℕ) (h : ∀ a, (![0, b, t, 0, 0] : Fin 5 → ℕ) a + S1x1x1x512x512.size a ≤ S2x2x2x512x512.size a) : Rect S2x2x2x512x512 :=
  Rect.unit (s := S2x2x2x512x512) ![0, b, t, 0, 0] S1x1x1x512x512.size h

omit [FloatOps F] in
/-- A store of one plane, element by element. -/
theorem plane_write (c : Dev nD) {b t : ℕ} {h} (f : Buf (Elt F) ((c : Thread nD τ).loc cc0_scratch0)) (w : S1x1x1x512x512.Idx → Elt F .bf16) (i : KvIdx) :
    ((kvM : Memref sig .tc .vmem S2x2x2x512x512 .bf16).access (planeR b t h)).write (Elt F) f w Finset.univ i
      = if (i 0).val = 0 ∧ (i 1).val = b ∧ (i 2).val = t then w (ix5 0 0 0 (i 3) (i 4)) else f i := by
  by_cases hi : i ∈ (planeR b t h).set
  · have hm := Rect.mem_set_unit.mp hi
    have h0 := hm 0; have h1 := hm 1; have h2 := hm 2
    change 0 ≤ (i 0).val ∧ (i 0).val < 0 + 1 at h0
    change b ≤ (i 1).val ∧ (i 1).val < b + 1 at h1
    change t ≤ (i 2).val ∧ (i 2).val < t + 1 at h2
    have e : i = ((kvM : Memref sig .tc .vmem S2x2x2x512x512 .bf16).access (planeR b t h)).emb (ix5 0 0 0 (i 3) (i 4) : S1x1x1x512x512.Idx) := by
      funext a
      match a with
      | ⟨0, _⟩ => exact Fin.ext (show (i 0).val = 0 + 1 * 0 by omega)
      | ⟨1, _⟩ => exact Fin.ext (show (i 1).val = b + 1 * 0 by omega)
      | ⟨2, _⟩ => exact Fin.ext (show (i 2).val = t + 1 * 0 by omega)
      | ⟨3, _⟩ => exact Fin.ext (show (i 3).val = 0 + 1 * (i 3).val by omega)
      | ⟨4, _⟩ => exact Fin.ext (show (i 4).val = 0 + 1 * (i 4).val by omega)
    rw [if_pos (by omega)]
    conv_lhs => rw [e]
    rw [View.write_emb_of_mem _ _ (Finset.mem_univ _)]
    rfl
  · rw [if_neg, View.write_of_not_mem]
    · intro hi'
      obtain ⟨x, -, hx⟩ := Finset.mem_map.mp hi'
      rw [← Rect.map_emb_univ] at hi
      exact hi (hx ▸ Finset.mem_map_of_mem (planeR b t h).emb (Finset.mem_univ x))
    · rintro ⟨h0, h1, h2⟩
      refine hi (Rect.mem_set_unit.mpr fun a => ?_)
      have h3 : (i 3).val < 512 := (i 3).isLt
      have h4 : (i 4).val < 512 := (i 4).isLt
      match a with
      | ⟨0, _⟩ => show 0 ≤ (i 0).val ∧ (i 0).val < 0 + 1; omega
      | ⟨1, _⟩ => show b ≤ (i 1).val ∧ (i 1).val < b + 1; omega
      | ⟨2, _⟩ => show t ≤ (i 2).val ∧ (i 2).val < t + 1; omega
      | ⟨3, _⟩ => show 0 ≤ (i 3).val ∧ (i 3).val < 0 + 512; omega
      | ⟨4, _⟩ => show 0 ≤ (i 4).val ∧ (i 4).val < 0 + 512; omega

/-- The rectangle of batch `b` of a staged block. -/
abbrev batchR (b : ℕ) (h : ∀ a, (![b, 0, 0] : Fin 3 → ℕ) a + S1x512x512.size a ≤ S2x512x512.size a) : Rect S2x512x512 :=
  Rect.unit (s := S2x512x512) ![b, 0, 0] S1x512x512.size h

omit [FloatOps F] in
/-- A staged block's batch as the kernel reshapes it for its plane. -/
theorem plane_payload {b : ℕ} {h} (X : S2x512x512.Idx → Elt F .bf16)
    (v : S1x512x512.Idx → Elt F .bf16) (hv : ∀ x, v x = X ((batchR b h).emb x)) (h₁ h₂) (i : KvIdx) (hi : (i 1).val = b) :
    shapeCast S1x1x1x512x512 (shapeCast S512x512 v h₁) h₂ (ix5 0 0 0 (i 3) (i 4)) = X (ix3 (i 1) (i 3) (i 4)) := by
  rw [shapeCast_apply _ h₂ _ (ix2 (i 3) (i 4)) (by rw [Shape.rowMajor_val_two, Shape.rowMajor_val_five]; show _ = (((0 * 1 + 0) * 1 + 0) * 512 + (i 3).val) * 512 + (i 4).val; show (i 3).val * 512 + (i 4).val = _; omega),
    shapeCast_apply _ h₁ _ (ix3 0 (i 3) (i 4)) (by rw [Shape.rowMajor_val_two, Shape.rowMajor_val_three]; show (0 * 512 + (i 3).val) * 512 + (i 4).val = (i 3).val * 512 + (i 4).val; omega), hv]
  refine congrArg X (funext fun a => ?_)
  match a with
  | ⟨0, _⟩ => exact Fin.ext (show b + 1 * 0 = (i 1).val by omega)
  | ⟨1, _⟩ => exact Fin.ext (show 0 + 1 * (i 3).val = (i 3).val by omega)
  | ⟨2, _⟩ => exact Fin.ext (show 0 + 1 * (i 4).val = (i 4).val by omega)

end Cert.Kernel.Exchange

end
-- ==== Proof.Out.lean ====
/-
# Out — the kernel's result on one device, and the stores that build it

The result is built of sixteen blocks, one per batch `b` and head `h`: 512 rows, columns `64 h … 64 h + 63` of batch `b`.
Block `(b, h)` is the quotient of two sums over the two slots of the exchanged buffer: of the products of the
exponentials with the values, and of the exponentials alone (`outblk`).

The kernel stores the blocks of its own column's batch first. `outP c n` holds the result buffer with the first `n`
blocks, in that order, final.
-/
module

public import proofs.«01_k».proof.Proof.Steps
public import Idealize.ShloMosaic.Lib.Pipeline.Value

@[expose] public section

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## The result -/

theorem head_inb (b : Fin 2) (h : Fin 8) : ∀ a, (![b.val, 0, 64 * h.val] : Fin 3 → ℕ) a + S1x512x64.size a ≤ S2x512x512.size a := by
  revert b h; decide
theorem kv_inb (s b t : Fin 2) (h : Fin 8) : ∀ a, (![s.val, b.val, t.val, 0, 64 * h.val] : Fin 5 → ℕ) a + S1x1x1x512x64.size a ≤ S2x2x2x512x512.size a := by
  revert s b t h; decide

/-- Head `h` of batch `b`, in the blocks of queries and results. -/
abbrev headR (b : Fin 2) (h : Fin 8) : Rect S2x512x512 := Rect.unit (s := S2x512x512) ![b.val, 0, 64 * h.val] S1x512x64.size (head_inb b h)
/-- Head `h` of the keys (`t = 0`) or values (`t = 1`) of batch `b` of slot `s`. -/
abbrev kvR (s b t : Fin 2) (h : Fin 8) : Rect S2x2x2x512x512 :=
  Rect.unit (s := S2x2x2x512x512) ![s.val, b.val, t.val, 0, 64 * h.val] S1x1x1x512x64.size (kv_inb s b t h)

/-- The scaled queries of a head. -/
def qh (c : Dev nD) (b : Fin 2) (h : Fin 8) : FVec F S512x64 .bf16 :=
  k0_pay143 ((qM : Memref sig .tc .vmem S2x512x512 .bf16).view.readAt (Elt F) (headR b h).toLoadRect (qst m ρ c))
/-- The keys (`t = 0`) or values (`t = 1`) of a head in slot `s`. -/
def kvh (c : Dev nD) (s b t : Fin 2) (h : Fin 8) : Vec F S1x1x1x512x64 .bf16 :=
  (kvM : Memref sig .tc .vmem S2x2x2x512x512 .bf16).view.readAt (Elt F) (kvR s b t h).toLoadRect (KV m ρ c)
/-- Slot `s`'s part of the numerator. -/
def acch (c : Dev nD) (s b : Fin 2) (h : Fin 8) : FVec F S512x64 .f32 := k0_pay2 (qh m ρ c b h) (kvh m ρ c s b 0 h) (kvh m ρ c s b 1 h)
/-- Slot `s`'s part of the denominator. -/
def denh (c : Dev nD) (s b : Fin 2) (h : Fin 8) : FVec F S512x8 .f32 := k0_pay3 k0_pay142 (qh m ρ c b h) (kvh m ρ c s b 0 h)
/-- The block of batch `b` and head `h`. -/
def outblk (c : Dev nD) (b : Fin 2) (h : Fin 8) : FVec F S1x512x64 .f32 :=
  k0_pay26 (acch m ρ c 0 b h) (denh m ρ c 0 b h) (acch m ρ c 1 b h) (denh m ρ c 1 b h)

/-- The head a column of the result belongs to, and the column within it. -/
def hd (i : S2x512x512.Idx) : Fin 8 := ⟨(i 2).val / 64, by have : (i 2).val < 512 := (i 2).isLt; omega⟩
def lane (i : S2x512x512.Idx) : Fin 64 := ⟨(i 2).val % 64, Nat.mod_lt _ (by decide)⟩

/-- The kernel's result on device `c`. -/
def outAt (c : Dev nD) : (cc0_stg3_0 : Ref sig .tc).ty.Contents (Elt F) := fun (i : S2x512x512.Idx) =>
  outblk m ρ c (i 0) (hd i) (ix3 0 (i 1) (lane i))

/-! ## The stores -/

/-- The batch and the head of the `n`-th block stored. -/
def nb (c : Dev nD) (n : ℕ) : Fin 2 := ⟨(yc c + n / 8) % 2, Nat.mod_lt _ (by decide)⟩
def nh (n : ℕ) : Fin 8 := ⟨n % 8, Nat.mod_lt _ (by decide)⟩

/-- The first `n` blocks of `f` are final. -/
def Done (c : Dev nD) (n : ℕ) (f : (cc0_stg3_0 : Ref sig .tc).ty.Contents (Elt F)) : Prop :=
  ∀ i : S2x512x512.Idx, (∃ k < n, i 0 = nb c k ∧ hd i = nh k) → f i = outAt m ρ c i

theorem done_zero (c : Dev nD) (f) : Done (F := F) m ρ c 0 f := fun _ ⟨_, h, _⟩ => absurd h (Nat.not_lt_zero _)

theorem done_all (c : Dev nD) (f) (h : Done (F := F) m ρ c 16 f) : f = outAt m ρ c := funext fun (i : S2x512x512.Idx) => by
  refine h i ?_
  have h0 : (i 0).val < 2 := (i 0).isLt
  have h2 : (i 2).val < 512 := (i 2).isLt
  have hy := yc_lt c
  refine ⟨8 * ((yc c + (i 0).val) % 2) + (i 2).val / 64, by omega, Fin.ext ?_, Fin.ext ?_⟩
  · show (i 0).val = (yc c + (8 * ((yc c + (i 0).val) % 2) + (i 2).val / 64) / 8) % 2
    omega
  · show (i 2).val / 64 = (8 * ((yc c + (i 0).val) % 2) + (i 2).val / 64) % 8
    omega

theorem mem_headR (b : Fin 2) (h : Fin 8) (i : S2x512x512.Idx) : i ∈ (headR b h).set ↔ i 0 = b ∧ hd i = h := by
  rw [Rect.mem_set_unit]
  have h1 : (i 1).val < 512 := (i 1).isLt
  constructor
  · intro hi
    have h0 := hi 0; have h2 := hi 2
    change b.val ≤ (i 0).val ∧ (i 0).val < b.val + 1 at h0
    change 64 * h.val ≤ (i 2).val ∧ (i 2).val < 64 * h.val + 64 at h2
    exact ⟨Fin.ext (show (i 0).val = b.val by omega), Fin.ext (show (i 2).val / 64 = h.val by omega)⟩
  · rintro ⟨h0, h2⟩ a
    have h0 : (i 0).val = b.val := congrArg Fin.val h0
    have h2 : (i 2).val / 64 = h.val := congrArg Fin.val h2
    match a with
    | ⟨0, _⟩ => show b.val ≤ (i 0).val ∧ (i 0).val < b.val + 1; omega
    | ⟨1, _⟩ => show 0 ≤ (i 1).val ∧ (i 1).val < 0 + 512; omega
    | ⟨2, _⟩ => show 64 * h.val ≤ (i 2).val ∧ (i 2).val < 64 * h.val + 64; omega

theorem done_succ (c : Dev nD) (n : ℕ) (f : (cc0_stg3_0 : Ref sig .tc).ty.Contents (Elt F)) (hf : Done m ρ c n f) :
    Done m ρ c (n + 1) (((oM : Memref sig .tc .vmem S2x512x512 .f32).access (headR (nb c n) (nh n))).write (Elt F) f (outblk m ρ c (nb c n) (nh n)) Finset.univ) := by
  rintro i ⟨k, hk, hi⟩
  by_cases hm : i ∈ (headR (nb c n) (nh n)).set
  · obtain ⟨e0, e1⟩ := (mem_headR _ _ i).mp hm
    have e : i = ((oM : Memref sig .tc .vmem S2x512x512 .f32).access (headR (nb c n) (nh n))).emb (ix3 0 (i 1) (lane i) : S1x512x64.Idx) := by
      have e0' : (i 0).val = (nb c n).val := congrArg Fin.val e0
      have e1' : (i 2).val / 64 = (nh n).val := congrArg Fin.val e1
      funext a
      match a with
      | ⟨0, _⟩ => exact Fin.ext (show (i 0).val = (nb c n).val + 1 * 0 by omega)
      | ⟨1, _⟩ => exact Fin.ext (show (i 1).val = 0 + 1 * (i 1).val by omega)
      | ⟨2, _⟩ => exact Fin.ext (show (i 2).val = 64 * (nh n).val + 1 * ((i 2).val % 64) by omega)
    conv_lhs => rw [e]
    rw [View.write_emb_of_mem _ _ (Finset.mem_univ _)]
    show outblk m ρ c (nb c n) (nh n) _ = outblk m ρ c (i 0) (hd i) _
    rw [e0, e1]
  · rw [View.write_of_not_mem]
    · refine hf i ⟨k, ?_, hi⟩
      rcases Nat.lt_succ_iff_lt_or_eq.mp hk with h | rfl
      · exact h
      · exact absurd ((mem_headR _ _ i).mpr hi) hm
    · intro hi'
      obtain ⟨x, -, hx⟩ := Finset.mem_map.mp hi'
      rw [← Rect.map_emb_univ] at hm
      exact hm (hx ▸ Finset.mem_map_of_mem (headR (nb c n) (nh n)).emb (Finset.mem_univ x))

/-- The result buffer with its first `n` blocks final. -/
def outP (c : Dev nD) (n : ℕ) : sProp 𝕄 := iprop(∃ f, ⌜Done m ρ c n f⌝ ∗ ((c : Thread nD τ).loc cc0_stg3_0) ↦{fullShare} f)

theorem wp_load_out (c : Dev nD) (n : ℕ) {r : LoadRect S2x512x512} {hl} {α : Type} {Q : α → sProp 𝕄}
    {k : (r.shape.Idx → Elt F .f32) → Prog (TpuEff nD τ sig (Elt F) Λ₀ .tc) α} :
    outP m ρ c n ⊢ iprop((∀ v, outP m ρ c n -∗ wp frame (wpE (defs₀ (F := F)) 𝒱₀ (c : Thread nD τ) none) Set.univ (k v) Q)
      -∗ wp frame (wpE (defs₀ (F := F)) 𝒱₀ (c : Thread nD τ) none) Set.univ (.op (.load oM r hl) k) Q) := by
  unfold outP
  iintro ⟨%f, %hf, H⟩ Hk
  iapply (wp_load 𝒱₀ (c : Thread nD τ) none Set.univ (m := oM) (Finset.subset_univ _)) $$ H; iintro H
  iapply Hk
  iexists f
  isplitr; · ipureintro; exact hf
  iexact H

theorem wp_store_out (c : Dev nD) (n : ℕ) {o : Fin 3 → ℕ} {h} {w : (Rect.unit (s := S2x512x512) o S1x512x64.size h).shape.Idx → Elt F .f32} {hx hm}
    {y : ℕ} (hy : yc c = y) (ho : o = ![(y + n / 8) % 2, 0, 64 * (n % 8)])
    (hw : w = outblk m ρ c ⟨(y + n / 8) % 2, Nat.mod_lt _ (by decide)⟩ ⟨n % 8, Nat.mod_lt _ (by decide)⟩)
    {α : Type} {Q : α → sProp 𝕄} {k : PUnit → Prog (TpuEff nD τ sig (Elt F) Λ₀ .tc) α} :
    outP m ρ c n ⊢ iprop((outP m ρ c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S2x512x512) o S1x512x64.size h) w Finset.univ hx hm) k) Q) := by
  subst hy; subst ho; subst hw
  unfold outP
  iintro ⟨%f, %hf, H⟩ Hk
  iapply (wp_store 𝒱₀ (c : Thread nD τ) none Set.univ (m := oM) (r := headR (nb c n) (nh n)) (Mk := Finset.univ) (Finset.subset_univ _)) $$ H; iintro H
  iapply Hk
  iexists _
  isplitr; · ipureintro; exact done_succ m ρ c n f hf
  iexact H

end Cert.Kernel.Exchange

end
-- ==== Proof.Body.lean ====
/-
# Body — the kernel's body on one device
-/
module

public import proofs.«01_k».proof.Proof.Out
public import Idealize.ShloMosaic.Lib.Pipeline.Value

@[expose] public section

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## Splitting the exchanged buffer -/

theorem univ_slots (b : ℕ) (hb : b < 2) : (Finset.univ : Finset KvIdx) = slot 0 ∪ (blk 1 b ∪ blk 1 (1 - b)) := by
  ext i
  have h0 : (i 0).val < 2 := (i 0).isLt
  have h1 : (i 1).val < 2 := (i 1).isLt
  simp only [Finset.mem_union, mem_slot, mem_blk, Finset.mem_univ, true_iff]
  omega
theorem slot_blks (s b : ℕ) (hb : b < 2) : slot s = blk s b ∪ blk s (1 - b) := by
  ext i
  have h1 : (i 1).val < 2 := (i 1).isLt
  simp only [Finset.mem_union, mem_slot, mem_blk]
  omega
theorem disj_slot (b b' : ℕ) : Disjoint (slot 0) (blk 1 b ∪ blk 1 b') :=
  Finset.disjoint_left.mpr fun i hi hi' => by simp only [Finset.mem_union, mem_slot, mem_blk] at hi hi'; omega

omit [FloatOps F] in
theorem kv_union (c : Dev nD) {S T : Finset KvIdx} (h : Disjoint S T) (q : PosShare TreeShare) (f) :
    (kvP (F := F) c (S ∪ T) q f : sProp 𝕄) = iprop(kvP c S q f ∗ kvP c T q f) :=
  have e := pointsTo_union (nD := nD) (τ := τ) (sig := sig) (Ix := Unit) (Val := Elt F) (Name := ℕ) (U := UU) (Lvl := ℕ)
    (ℓ := (c : Thread nD τ).loc cc0_scratch0) (I := S) (J := T) (q := q) (f := f) h
  BI.equiv_iff.mp ⟨e.1, e.2⟩

omit [FloatOps F] in
theorem kv_whole (c : Dev nD) (f) : (kvP (F := F) c Finset.univ fullShare f : sProp 𝕄)
    = iprop(kvP c (slot 0) fullShare f ∗ kvP c (blk 1 (yc c)) fullShare f ∗ kvP c (blk 1 (1 - yc c)) fullShare f) := by
  rw [univ_slots (yc c) (yc_lt c), kv_union c (disj_slot (yc c) (1 - yc c)),
    kv_union c (disj_batch 1 (yc c) (1 - yc c) (by have := yc_lt c; omega))]
omit [FloatOps F] in
theorem kv_slot0 (c : Dev nD) (q : PosShare TreeShare) (f) : (kvP (F := F) c (slot 0) q f : sProp 𝕄)
    = iprop(kvP c (blk 0 (yc c)) q f ∗ kvP c (blk 0 (1 - yc c)) q f) := by
  rw [slot_blks 0 (yc c) (yc_lt c), kv_union c (disj_batch 0 (yc c) (1 - yc c) (by have := yc_lt c; omega))]

theorem plane_sub_slot (b t : ℕ) (h) : ((kvM : Memref sig .tc .vmem S2x2x2x512x512 .bf16).access (planeR b t h)).setOn Finset.univ ⊆ slot 0 := by
  intro i hi
  obtain ⟨x, -, rfl⟩ := Finset.mem_map.mp hi
  refine mem_slot.mpr ?_
  have h0 : (x 0).val < 1 := (x 0).isLt
  show 0 + 1 * (x 0).val = 0
  omega

/-! ## Slot 0: the device's own keys and values -/

/-- Slot 0 with its first `n` planes (the keys of batch 0, its values, those of batch 1) stored. -/
def ownP (c : Dev nD) (n : ℕ) : sProp 𝕄 :=
  iprop(∃ f, ⌜∀ i : KvIdx, (i 0).val = 0 → 2 * (i 1).val + (i 2).val < n → f i = KV m ρ c i⌝ ∗ kvP c (slot 0) fullShare f)

theorem own_zero (c : Dev nD) (f) : (kvP (F := F) c (slot 0) fullShare f : sProp 𝕄) ⊢ ownP m ρ c 0 := by
  unfold ownP
  iintro H; iexists f
  isplitr; · ipureintro; exact fun _ _ h => absurd h (Nat.not_lt_zero _)
  iexact H

theorem own_all (c : Dev nD) : ownP m ρ c 4 ⊢ (kvP (F := F) c (slot 0) fullShare (KV m ρ c) : sProp 𝕄) := by
  unfold ownP
  iintro ⟨%f, %hf, H⟩
  have e : (kvP (F := F) c (slot 0) fullShare f : sProp 𝕄) = kvP c (slot 0) fullShare (KV m ρ c) :=
    pointsTo_congr fun i hi => hf i (mem_slot.mp hi) (by have h1 : (i 1).val < 2 := (i 1).isLt; have h2 : (i 2).val < 2 := (i 2).isLt; omega)
  iapply (Entails.of_eq e); iexact H

theorem wp_load_own (c : Dev nD) (n : ℕ) {o sz : Fin 5 → ℕ} {h} {hl} (hs : o 0 = 0) (hz : sz 0 = 1) {α : Type} {Q : α → sProp 𝕄}
    {k : ((Rect.unit (s := S2x2x2x512x512) o sz h).toLoadRect.shape.Idx → Elt F .bf16) → Prog (TpuEff nD τ sig (Elt F) Λ₀ .tc) α} :
    ownP m ρ c n ⊢ iprop((∀ v, ownP m ρ c n -∗ wp frame (wpE (defs₀ (F := F)) 𝒱₀ (c : Thread nD τ) none) Set.univ (k v) Q)
      -∗ wp frame (wpE (defs₀ (F := F)) 𝒱₀ (c : Thread nD τ) none) Set.univ (.op (.load kvM (Rect.unit (s := S2x2x2x512x512) o sz h).toLoadRect hl) k) Q) := by
  unfold ownP
  iintro ⟨%f, %hf, H⟩ Hk
  iapply (wp_load 𝒱₀ (c : Thread nD τ) none Set.univ (m := kvM) (kv_rect_slot (s := 0) hs hz)) $$ H; iintro H
  iapply Hk
  iexists f
  isplitr; · ipureintro; exact hf
  iexact H

/-- The store of a plane: `X` is the staged block it comes from, `b` the batch. -/
theorem wp_store_own (c : Dev nD) (b t : ℕ) (ht : t < 2) {o : Fin 5 → ℕ} {h} {w : (Rect.unit (s := S2x2x2x512x512) o S1x1x1x512x512.size h).shape.Idx → Elt F .bf16}
    {hx hm} (ho : o = ![0, b, t, 0, 0]) (hw : ∀ i : KvIdx, (i 0).val = 0 → (i 1).val = b → (i 2).val = t → w (ix5 0 0 0 (i 3) (i 4)) = KV m ρ c i)
    {α : Type} {Q : α → sProp 𝕄} {k : PUnit → Prog (TpuEff nD τ sig (Elt F) Λ₀ .tc) α} :
    ownP m ρ c (2 * b + t) ⊢ iprop((ownP m ρ c (2 * b + t + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.store kvM (Rect.unit (s := S2x2x2x512x512) o S1x1x1x512x512.size h) w Finset.univ hx hm) k) Q) := by
  subst ho
  unfold ownP
  iintro ⟨%f, %hf, H⟩ Hk
  iapply (wp_store 𝒱₀ (c : Thread nD τ) none Set.univ (m := kvM) (r := planeR b t h) (Mk := Finset.univ) (plane_sub_slot b t h)) $$ H; iintro H
  iapply Hk
  iexists (((kvM : Memref sig .tc .vmem S2x2x2x512x512 .bf16).access (planeR b t h)).write (Elt F) f w Finset.univ)
  isplitr
  · ipureintro
    intro i h0 hn
    rw [plane_write]
    have h2 : (i 2).val < 2 := (i 2).isLt
    by_cases he : (i 0).val = 0 ∧ (i 1).val = b ∧ (i 2).val = t
    · rw [if_pos he]; exact hw i h0 he.2.1 he.2.2
    · rw [if_neg he]; exact hf i h0 (by omega)
  iexact H

theorem own_keys (c : Dev nD) (b : ℕ) {h} (h₁ h₂) (i : KvIdx) (h0 : (i 0).val = 0) (hb : (i 1).val = b) (ht : (i 2).val = 0) :
    shapeCast S1x1x1x512x512 (shapeCast S512x512 ((kM : Memref sig .tc .vmem S2x512x512 .bf16).view.readAt (Elt F) (batchR b h).toLoadRect (kst m ρ c)) h₁) h₂
      (ix5 0 0 0 (i 3) (i 4)) = KV m ρ c i := by
  refine (plane_payload (h := h) (kst m ρ c) _ (fun _ => rfl) h₁ h₂ i hb).trans ?_
  unfold KV
  rw [if_pos ht, h0, owner_zero]

theorem own_values (c : Dev nD) (b : ℕ) {h} (h₁ h₂) (i : KvIdx) (h0 : (i 0).val = 0) (hb : (i 1).val = b) (ht : (i 2).val = 1) :
    shapeCast S1x1x1x512x512 (shapeCast S512x512 ((vM : Memref sig .tc .vmem S2x512x512 .bf16).view.readAt (Elt F) (batchR b h).toLoadRect (vst m ρ c)) h₁) h₂
      (ix5 0 0 0 (i 3) (i 4)) = KV m ρ c i := by
  refine (plane_payload (h := h) (vst m ρ c) _ (fun _ => rfl) h₁ h₂ i hb).trans ?_
  unfold KV
  rw [if_neg (by omega), h0, owner_zero]

/-! ## What the body waits for and starts from -/

theorem barPay_row (c : Dev nD) : (barPay c false : sProp 𝕄) = iprop(∃ f, kvP (F := F) (xp c) (blk 1 (yc c)) fullShare f) := by
  unfold barPay; rw [if_neg (by decide)]
theorem barPay_column (c : Dev nD) : (barPay c true : sProp 𝕄) = iprop(∃ f, kvP (F := F) (yp c) (blk 1 (yc c)) fullShare f) := by
  unfold barPay; rw [if_pos rfl]

/-- Exactly one of the kernel's two branches runs, by the device's column. -/
theorem columns : ∀ c : Dev nD, (yc c = 0 ∧ k0_cond1 c = 1#1 ∧ ¬ k0_cond2 c = 1#1) ∨ (yc c = 1 ∧ ¬ k0_cond1 c = 1#1 ∧ k0_cond2 c = 1#1) := by
  decide

theorem below_bar : ∀ c : Dev nD, ∀ p ∈ (pays c).tail.tail, lvS (.reg bS) < lvS (csem p.2) := by decide
/-- Direct arrivals are waited for while the forwarded ones are owed. -/
theorem below_direct : ∀ (c : Dev nD) (n : Fin 5) (i : Fin 4), ∀ p ∈ (pays c).drop (6 + n.val), lvS (csem (some (1, i))) < lvS (csem p.2) := by decide

theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)

/-- `Φ` at the four pieces. -/
abbrev four (Φ : Fin 4 → sProp 𝕄) : sProp 𝕄 := iprop(Φ 0 ∗ Φ 1 ∗ Φ 2 ∗ Φ 3)

/-- What the body starts from besides its buffers: the records; the device's positions at its cells; the duties it pays;
    the credits of the cells it waits on and does not pay itself. -/
def ghost (K : Dev nD × Option J → ℕ) (c : Dev nD) : sProp 𝕄 :=
  iprop(recs m ρ K
    ∗ (atPos EX (bCell c) 0 ∅ 0 ∗ four (fun p => atPos EX (dCell c (0, p)) 0 ∅ 0) ∗ four (fun p => atPos EX (dCell c (1, p)) 0 ∅ 0)
      ∗ four (fun p => atPos EX (dCell c (2, p)) 0 ∅ 0) ∗ four (fun p => atPos EX (dCell c (3, p)) 0 ∅ 0))
    ∗ (dutyTok EX (bCell (xp c)) 0 false ∗ dutyTok EX (bCell (yp c)) 0 true
      ∗ four (fun p => dutyTok EX (dCell c (0, p)) 0 false) ∗ four (fun p => dutyTok EX (dCell (xp c) (1, p)) 0 false)
      ∗ four (fun p => dutyTok EX (dCell c (2, p)) 0 false) ∗ four (fun p => dutyTok EX (dCell (yp c) (3, p)) 0 false)))
def credits (c : Dev nD) : sProp 𝕄 :=
  iprop(credit c none 2 ∗ four (fun p => credit c (some (1, p)) N) ∗ four (fun p => credit c (some (3, p)) N))

abbrev qP (c : Dev nD) : sProp 𝕄 := ((c : Thread nD τ).loc cc0_stg0_0) ↦{fullShare} qst m ρ c
abbrev kP (c : Dev nD) : sProp 𝕄 := ((c : Thread nD τ).loc cc0_stg1_0) ↦{fullShare} kst m ρ c
abbrev vP (c : Dev nD) : sProp 𝕄 := ((c : Thread nD τ).loc cc0_stg2_0) ↦{fullShare} vst m ρ c

/-- What the body leaves: the exchanged buffer whole, every counter at zero, nothing owed, and the result. -/
def left (c : Dev nD) : sProp 𝕄 :=
  iprop(kvP c Finset.univ fullShare (KV m ρ c)
    ∗ (semVal (bCell c) 0 ∗ four (fun p => semVal (dCell c (0, p)) 0) ∗ four (fun p => semVal (dCell c (1, p)) 0)
      ∗ four (fun p => semVal (dCell c (2, p)) 0) ∗ four (fun p => semVal (dCell c (3, p)) 0))
    ∗ owing c [] ∗ qP m ρ c ∗ kP m ρ c ∗ vP m ρ c ∗ outP m ρ c 16)

set_option maxHeartbeats 8000000 in
theorem body_wp (K : Dev nD × Option J → ℕ) (c : Dev nD) (Kt : PUnit → sProp 𝕄) :
    iprop(ghost m ρ K c ∗ credits c ∗ levAts L lv ∗ (∃ f, kvP c Finset.univ fullShare f) ∗ owing c (pays c) ∗ qP m ρ c ∗ kP m ρ c ∗ vP m ρ c ∗ outP m ρ c 0 ∗ (left m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 cc0_scratch3 cc0_scratch4) Kt := by
  simp only [cc0_body_eq_skeleton]; unfold cc0_body_skel
  unfold ghost credits
  iintro ⟨⟨#HR, ⟨HaB, ⟨Ha00, Ha01, Ha02, Ha03⟩, ⟨Ha10, Ha11, Ha12, Ha13⟩, ⟨Ha20, Ha21, Ha22, Ha23⟩, ⟨Ha30, Ha31, Ha32, Ha33⟩⟩, HtX, HtY,
      ⟨Ht00, Ht01, Ht02, Ht03⟩, ⟨Ht10, Ht11, Ht12, Ht13⟩, ⟨Ht20, Ht21, Ht22, Ht23⟩, ⟨Ht30, Ht31, Ht32, Ht33⟩⟩,
    ⟨HcB, ⟨Hc10, Hc11, Hc12, Hc13⟩, ⟨Hc30, Hc31, Hc32, Hc33⟩⟩, #HL, ⟨%f0, Hkv⟩, HO, Hq, Hk, Hv, Hout, HK⟩
  rw [wp_bind]
  simp only [k0_part21_eq_skeleton]; unfold k0_part21_skel
  simp only [semSignalWord, semWaitWord, Prog.lift, Prog.bind_op, Prog.bind_ret, Prog.pure_eq_ret, wp_deviceId]
  simp only [dev1_eq c, dev2_eq c]
  ihave Hkv := (Entails.of_eq (kv_whole c f0)) $$ Hkv
  icases Hkv with ⟨H0, H1, H2⟩
  unfold owing
  icases HO with ⟨%W, HO⟩
  -- both barrier signals, each with the batch its receiver will write
  iapply (Rounds.wp_signal 𝒱₀ EX (Rd m ρ) (c : Thread nD τ) none (dst := (xp c : Thread nD τ)) (κ := K (xp c, none))
      (d := false) (by rw [duties_bar]; exact Finset.mem_univ _) ((amount_bar m ρ (xp c) false).trans (by decide)) () (owe (pays c).tail) rfl)
    $$ [HO HtX H1]
  · isplitr; · iapply (recs_inv m ρ K (xp c, none)); iexact HR
    isplitl [HO]; · iexact HO
    isplitl [HtX]; · iexact HtX
    isplitl [H1]
    · rw [payload_bar]; unfold barPay; rw [if_neg (by decide), xp_xp, yc_xp]; iexists f0; iexact H1
    iapply (recs_reached m ρ K (xp c, none)); iexact HR
  iintro HO
  iapply (Rounds.wp_signal 𝒱₀ EX (Rd m ρ) (c : Thread nD τ) none (dst := (yp c : Thread nD τ)) (κ := K (yp c, none))
      (d := true) (by rw [duties_bar]; exact Finset.mem_univ _) ((amount_bar m ρ (yp c) true).trans (by decide)) () (owe (pays c).tail.tail) rfl)
    $$ [HO HtY H2]
  · isplitr; · iapply (recs_inv m ρ K (yp c, none)); iexact HR
    isplitl [HO]; · iexact HO
    isplitl [HtY]; · iexact HtY
    isplitl [H2]
    · rw [payload_bar]; unfold barPay; rw [if_pos rfl, yp_yp, yc_yp]; iexists f0; iexact H2
    iapply (recs_reached m ρ K (yp c, none)); iexact HR
  iintro HO
  -- the wait for both partners' units: their batches, to write
  iapply (Rounds.wp_wait_rest_token 𝒱₀ EX (Rd m ρ) (c : Thread nD τ) none (κ := K (c, none))
      (wpE_semWait_eq 𝒱₀ (c : Thread nD τ) none Set.univ) (Set.mem_univ _) () (O := owe (pays c).tail.tail) (W := W) (R := 0) (m := 0) (T := ∅)
      (by rw [expect_bar]; decide)) $$ [HcB HO HaB]
  · isplitr; · iapply (recs_inv m ρ K (c, none)); iexact HR
    isplitl [HcB]; · iexact HcB
    isplitl [HO]; · iexact HO
    isplitr; · iapply (mayWait c (.reg bS) (pays c).tail.tail (below_bar c)); iexact HL
    iexact HaB
  iintro ⟨HO, HaB, -, Hpay⟩
  ihave Hp := (Entails.of_eq (rest_bar m ρ c)) $$ Hpay
  icases Hp with ⟨HX, HY⟩
  ihave HX := (Entails.of_eq (barPay_row c)) $$ HX
  ihave HY := (Entails.of_eq (barPay_column c)) $$ HY
  icases HX with ⟨%fx, HX⟩
  icases HY with ⟨%fy, HY⟩
  imod (Rounds.cell_close EX (Rd m ρ) (Set.mem_univ (K (c, none))) (fun h => h) (R := 0 + 1) (duties_later m ρ (bCell c))) $$ [HaB] with HzB
  · isplitr; · iapply (recs_inv m ρ K (c, none)); iexact HR
    iexact HaB
  ihave HO : owing c (pays c).tail.tail $$ [HO]
  · unfold owing; iexists _; iexact HO
  -- the device's own keys and values into slot 0
  ihave H0 := (own_zero m ρ c f0) $$ H0
  iapply (wp_load 𝒱₀ (c : Thread nD τ) none Set.univ (m := kM) (Finset.subset_univ _)) $$ Hk; iintro Hk
  iapply (wp_load_own m ρ c 0 rfl rfl) $$ H0; iintro %_ H0
  iapply (wp_store_own m ρ c 0 0 (by decide) rfl (own_keys m ρ c 0 _ _)) $$ H0; iintro H0
  iapply (wp_load 𝒱₀ (c : Thread nD τ) none Set.univ (m := vM) (Finset.subset_univ _)) $$ Hv; iintro Hv
  rw [wp_ret]; imodintro
  rw [wp_bind]
  simp only [k0_part22_eq_skeleton]; unfold k0_part22_skel
  simp only [Prog.lift, Prog.bind_op, Prog.bind_ret, Prog.pure_eq_ret]
  iapply (wp_load_own m ρ c 1 rfl rfl) $$ H0; iintro %_ H0
  iapply (wp_store_own m ρ c 0 1 (by decide) rfl (own_values m ρ c 0 _ _)) $$ H0; iintro H0
  iapply (wp_load 𝒱₀ (c : Thread nD τ) none Set.univ (m := kM) (Finset.subset_univ _)) $$ Hk; iintro Hk
  iapply (wp_load_own m ρ c 2 rfl rfl) $$ H0; iintro %_ H0
  iapply (wp_store_own m ρ c 1 0 (by decide) rfl (own_keys m ρ c 1 _ _)) $$ H0; iintro H0
  iapply (wp_load 𝒱₀ (c : Thread nD τ) none Set.univ (m := vM) (Finset.subset_univ _)) $$ Hv; iintro Hv
  iapply (wp_load_own m ρ c 3 rfl rfl) $$ H0; iintro %_ H0
  iapply (wp_store_own m ρ c 1 1 (by decide) rfl (own_values m ρ c 1 _ _)) $$ H0; iintro H0
  -- slot 0 is final: one half of it stays to be read, of the other the own column's batch is lent to the transfers
  ihave H0 := (own_all m ρ c) $$ H0
  ihave H0 := (kv_halves c _ _).1 $$ H0
  icases H0 with ⟨HsL, HsR⟩
  ihave HsR := (Entails.of_eq (kv_slot0 c _ _)) $$ HsR
  icases HsR with ⟨HsR, HsN⟩
  ihave HsR := (Entails.of_eq (kv_pieces c _ _ _ _)) $$ HsR
  icases HsR with ⟨HsR0, HsR1, HsR2, HsR3⟩
  ihave HX := (Entails.of_eq (kv_pieces (xp c) _ _ _ fx)) $$ HX
  icases HX with ⟨HX0, HX1, HX2, HX3⟩
  ihave HY := (Entails.of_eq (kv_pieces (yp c) _ _ _ fy)) $$ HY
  icases HY with ⟨HY0, HY1, HY2, HY3⟩
  iapply (wp_send_direct m ρ K c 0 ((pays c).drop 3) (Fin.ext (k0_dev3_eq c)) rfl rfl (k0_off2_eq c) (k0_off1_eq c) fx) $$ [HsR0 HX0 Ht00 Ht10 HO]
  · isplitr; · iexact HR
    isplitl [HsR0]; · iexact HsR0
    isplitl [HX0]; · iexact HX0
    isplitl [Ht00]; · iexact Ht00
    isplitl [Ht10]; · iexact Ht10
    iexact HO
  iintro ⟨Hc00, HO⟩
  rw [wp_ret]; imodintro
  rw [wp_bind]
  simp only [k0_part23_eq_skeleton]; unfold k0_part23_skel
  simp only [Prog.lift, Prog.bind_op, Prog.bind_ret, Prog.pure_eq_ret]
  iapply (wp_send_direct m ρ K c 1 ((pays c).drop 4) (Fin.ext (k0_dev4_eq c)) rfl rfl (k0_off4_eq c) (k0_off3_eq c) fx) $$ [HsR1 HX1 Ht01 Ht11 HO]
  · isplitr; · iexact HR
    isplitl [HsR1]; · iexact HsR1
    isplitl [HX1]; · iexact HX1
    isplitl [Ht01]; · iexact Ht01
    isplitl [Ht11]; · iexact Ht11
    iexact HO
  iintro ⟨Hc01, HO⟩
  iapply (wp_send_direct m ρ K c 2 ((pays c).drop 5) (Fin.ext (k0_dev5_eq c)) rfl rfl (k0_off6_eq c) (k0_off5_eq c) fx) $$ [HsR2 HX2 Ht02 Ht12 HO]
  · isplitr; · iexact HR
    isplitl [HsR2]; · iexact HsR2
    isplitl [HX2]; · iexact HX2
    isplitl [Ht02]; · iexact Ht02
    isplitl [Ht12]; · iexact Ht12
    iexact HO
  iintro ⟨Hc02, HO⟩
  rw [wp_ret]; imodintro
  rw [wp_bind]
  simp only [k0_part24_eq_skeleton]; unfold k0_part24_skel
  simp only [Prog.lift, Prog.bind_op, Prog.bind_ret, Prog.pure_eq_ret]
  iapply (wp_send_direct m ρ K c 3 ((pays c).drop 6) (Fin.ext (k0_dev6_eq c)) rfl rfl (k0_off8_eq c) (k0_off7_eq c) fx) $$ [HsR3 HX3 Ht03 Ht13 HO]
  · isplitr; · iexact HR
    isplitl [HsR3]; · iexact HsR3
    isplitl [HX3]; · iexact HX3
    isplitl [Ht03]; · iexact Ht03
    isplitl [Ht13]; · iexact Ht13
    iexact HO
  iintro ⟨Hc03, HO⟩
  iterate 5 (iapply (wp_load 𝒱₀ (c : Thread nD τ) none Set.univ (m := qM) (Finset.subset_univ _)) $$ Hq; iintro Hq)
  rw [wp_ret]; imodintro
  rw [wp_bind]
  simp only [k0_part25_eq_skeleton]; unfold k0_part25_skel
  simp only [Prog.lift, Prog.bind_op, Prog.bind_ret, Prog.pure_eq_ret]
  iterate 8 (iapply (wp_load 𝒱₀ (c : Thread nD τ) none Set.univ (m := qM) (Finset.subset_univ _)) $$ Hq; iintro Hq)
  rw [wp_ret]; imodintro
  rw [wp_bind]
  simp only [k0_part26_eq_skeleton]; unfold k0_part26_skel
  simp only [Prog.lift, Prog.bind_op, Prog.bind_ret, Prog.pure_eq_ret]
  iterate 3 (iapply (wp_load 𝒱₀ (c : Thread nD τ) none Set.univ (m := qM) (Finset.subset_univ _)) $$ Hq; iintro Hq)
  iterate 3 (iapply (wp_load 𝒱₀ (c : Thread nD τ) none Set.univ (m := kvM) (kv_rect_slot (s := 0) rfl rfl)) $$ HsL; iintro HsL)
  rw [wp_ret]; imodintro
  rw [wp_bind]
  simp only [k0_part27_eq_skeleton]; unfold k0_part27_skel
  simp only [Prog.lift, Prog.bind_op, Prog.bind_ret, Prog.pure_eq_ret]
  iterate 5 (iapply (wp_load 𝒱₀ (c : Thread nD τ) none Set.univ (m := kvM) (kv_rect_slot (s := 0) rfl rfl)) $$ HsL; iintro HsL)
  rw [wp_ret]; imodintro
  rw [wp_bind]
  simp only [k0_part28_eq_skeleton]; unfold k0_part28_skel
  simp only [Prog.lift, Prog.bind_op, Prog.bind_ret, Prog.pure_eq_ret]
  iapply (wp_wait_dma m ρ K c (1, 0) rfl ((pays c).drop 6) (below_direct c 0 0) rfl) $$ [Hc10 Ha10 HO]
  · isplitr; · iexact HR
    isplitr; · iexact HL
    isplitl [Hc10]; · iexact Hc10
    isplitl [Ha10]; · iexact Ha10
    iexact HO
  iintro ⟨HO, Hz10, HP⟩
  ihave HP := (Entails.of_eq (dmaPay_1 m ρ c 0)) $$ HP
  ihave HP := (kv_halves c _ _).1 $$ HP
  icases HP with ⟨HL0, HP0⟩
  iapply (wp_send_forward m ρ K c 0 ((pays c).drop 7) (Fin.ext (k0_dev7_eq c)) rfl rfl (k0_off1_eq c) (k0_off1_eq c) fy) $$ [HP0 HY0 Ht20 Ht30 HO]
  · isplitr; · iexact HR
    isplitl [HP0]; · iexact HP0
    isplitl [HY0]; · iexact HY0
    isplitl [Ht20]; · iexact Ht20
    isplitl [Ht30]; · iexact Ht30
    iexact HO
  iintro ⟨Hc20, HO⟩
  iterate 1 (iapply (wp_load 𝒱₀ (c : Thread nD τ) none Set.univ (m := kvM) (kv_rect_slot (s := 0) rfl rfl)) $$ HsL; iintro HsL)
  rw [wp_ret]; imodintro
  rw [wp_bind]
  simp only [k0_part29_eq_skeleton]; unfold k0_part29_skel
  simp only [Prog.lift, Prog.bind_op, Prog.bind_ret, Prog.pure_eq_ret]
  iterate 6 (iapply (wp_load 𝒱₀ (c : Thread nD τ) none Set.univ (m := kvM) (kv_rect_slot (s := 0) rfl rfl)) $$ HsL; iintro HsL)
  rw [wp_ret]; imodintro
  rw [wp_bind]
  simp only [k0_part30_eq_skeleton]; unfold k0_part30_skel
  simp only [Prog.lift, Prog.bind_op, Prog.bind_ret, Prog.pure_eq_ret]
  iterate 1 (iapply (wp_load 𝒱₀ (c : Thread nD τ) none Set.univ (m := kvM) (kv_rect_slot (s := 0) rfl rfl)) $$ HsL; iintro HsL)
  iapply (wp_wait_dma m ρ K c (1, 1) rfl ((pays c).drop 7) (below_direct c 1 1) rfl) $$ [Hc11 Ha11 HO]
  · isplitr; · iexact HR
    isplitr; · iexact HL
    isplitl [Hc11]; · iexact Hc11
    isplitl [Ha11]; · iexact Ha11
    iexact HO
  iintro ⟨HO, Hz11, HP⟩
  ihave HP := (Entails.of_eq (dmaPay_1 m ρ c 1)) $$ HP
  ihave HP := (kv_halves c _ _).1 $$ HP
  icases HP with ⟨HL1, HP1⟩
  rw [wp_ret]; imodintro
  rw [wp_bind]
  simp only [k0_part31_eq_skeleton]; unfold k0_part31_skel
  simp only [Prog.lift, Prog.bind_op, Prog.bind_ret, Prog.pure_eq_ret]
  iapply (wp_send_forward m ρ K c 1 ((pays c).drop 8) (Fin.ext (k0_dev8_eq c)) rfl rfl (k0_off3_eq c) (k0_off3_eq c) fy) $$ [HP1 HY1 Ht21 Ht31 HO]
  · isplitr; · iexact HR
    isplitl [HP1]; · iexact HP1
    isplitl [HY1]; · iexact HY1
    isplitl [Ht21]; · iexact Ht21
    isplitl [Ht31]; · iexact Ht31
    iexact HO
  iintro ⟨Hc21, HO⟩
  iterate 5 (iapply (wp_load 𝒱₀ (c : Thread nD τ) none Set.univ (m := kvM) (kv_rect_slot (s := 0) rfl rfl)) $$ HsL; iintro HsL)
  rw [wp_ret]; imodintro
  rw [wp_bind]
  simp only [k0_part32_eq_skeleton]; unfold k0_part32_skel
  simp only [Prog.lift, Prog.bind_op, Prog.bind_ret, Prog.pure_eq_ret]
  iterate 3 (iapply (wp_load 𝒱₀ (c : Thread nD τ) none Set.univ (m := kvM) (kv_rect_slot (s := 0) rfl rfl)) $$ HsL; iintro HsL)
  iapply (wp_wait_dma m ρ K c (1, 2) rfl ((pays c).drop 8) (below_direct c 2 2) rfl) $$ [Hc12 Ha12 HO]
  · isplitr; · iexact HR
    isplitr; · iexact HL
    isplitl [Hc12]; · iexact Hc12
    isplitl [Ha12]; · iexact Ha12
    iexact HO
  iintro ⟨HO, Hz12, HP⟩
  ihave HP := (Entails.of_eq (dmaPay_1 m ρ c 2)) $$ HP
  ihave HP := (kv_halves c _ _).1 $$ HP
  icases HP with ⟨HL2, HP2⟩
  rw [wp_ret]; imodintro
  rw [wp_bind]
  simp only [k0_part33_eq_skeleton]; unfold k0_part33_skel
  simp only [Prog.lift, Prog.bind_op, Prog.bind_ret, Prog.pure_eq_ret]
  iapply (wp_send_forward m ρ K c 2 ((pays c).drop 9) (Fin.ext (k0_dev9_eq c)) rfl rfl (k0_off5_eq c) (k0_off5_eq c) fy) $$ [HP2 HY2 Ht22 Ht32 HO]
  · isplitr; · iexact HR
    isplitl [HP2]; · iexact HP2
    isplitl [HY2]; · iexact HY2
    isplitl [Ht22]; · iexact Ht22
    isplitl [Ht32]; · iexact Ht32
    iexact HO
  iintro ⟨Hc22, HO⟩
  iterate 4 (iapply (wp_load 𝒱₀ (c : Thread nD τ) none Set.univ (m := kvM) (kv_rect_slot (s := 0) rfl rfl)) $$ HsL; iintro HsL)
  rw [wp_ret]; imodintro
  rw [wp_bind]
  simp only [k0_part34_eq_skeleton]; unfold k0_part34_skel
  simp only [Prog.lift, Prog.bind_op, Prog.bind_ret, Prog.pure_eq_ret]
  iterate 4 (iapply (wp_load 𝒱₀ (c : Thread nD τ) none Set.univ (m := kvM) (kv_rect_slot (s := 0) rfl rfl)) $$ HsL; iintro HsL)
  rw [wp_ret]; imodintro
  rw [wp_bind]
  simp only [k0_part35_eq_skeleton]; unfold k0_part35_skel
  simp only [Prog.lift, Prog.bind_op, Prog.bind_ret, Prog.pure_eq_ret]
  iapply (wp_wait_dma m ρ K c (1, 3) rfl ((pays c).drop 9) (below_direct c 3 3) rfl) $$ [Hc13 Ha13 HO]
  · isplitr; · iexact HR
    isplitr; · iexact HL
    isplitl [Hc13]; · iexact Hc13
    isplitl [Ha13]; · iexact Ha13
    iexact HO
  iintro ⟨HO, Hz13, HP⟩
  ihave HP := (Entails.of_eq (dmaPay_1 m ρ c 3)) $$ HP
  ihave HP := (kv_halves c _ _).1 $$ HP
  icases HP with ⟨HL3, HP3⟩
  iapply (wp_send_forward m ρ K c 3 ((pays c).drop 10) (Fin.ext (k0_dev10_eq c)) rfl rfl (k0_off7_eq c) (k0_off7_eq c) fy) $$ [HP3 HY3 Ht23 Ht33 HO]
  · isplitr; · iexact HR
    isplitl [HP3]; · iexact HP3
    isplitl [HY3]; · iexact HY3
    isplitl [Ht23]; · iexact Ht23
    isplitl [Ht33]; · iexact Ht33
    iexact HO
  iintro ⟨Hc23, HO⟩
  rw [wp_ret]; imodintro
  rw [wp_bind]
  simp only [k0_part36_eq_skeleton]; unfold k0_part36_skel
  simp only [Prog.lift, Prog.bind_op, Prog.bind_ret, Prog.pure_eq_ret]
  ihave HB := (Entails.of_eq (kv_pieces c 1 (yc c) fullShare.left (KV m ρ c)).symm) $$ [HL0 HL1 HL2 HL3]
  · isplitl [HL0]; · iexact HL0
    isplitl [HL1]; · iexact HL1
    isplitl [HL2]; · iexact HL2
    iexact HL3
  -- one of the two columns' texts runs: first the own column's batch of slot 1, then the other one, once it has arrived
  have hcol : (yc c = 0 ∧ k0_cond1 c = 1#1 ∧ ¬ k0_cond2 c = 1#1) ∨ (yc c = 1 ∧ ¬ k0_cond1 c = 1#1 ∧ k0_cond2 c = 1#1) := columns c
  rcases hcol with ⟨hy, h1, h2⟩ | ⟨hy, h1, h2⟩
  all_goals
    first | rw [dif_pos h1, dif_neg h2] | rw [dif_neg h1, dif_pos h2]
    rw [wp_bind]
    simp only [k0_part1_eq_skeleton, k0_part11_eq_skeleton]; first | unfold k0_part1_skel | unfold k0_part11_skel
    simp only [Prog.lift, Prog.bind_op, Prog.bind_ret, Prog.pure_eq_ret]
    iterate 5 (iapply (wp_load 𝒱₀ (c : Thread nD τ) none Set.univ (m := kvM) (kv_rect_blk (s := 1) (b := yc c) rfl hy.symm rfl rfl)) $$ HB; iintro HB)
    rw [wp_ret]; imodintro
    rw [wp_bind]
    simp only [k0_part2_eq_skeleton, k0_part12_eq_skeleton]; first | unfold k0_part2_skel | unfold k0_part12_skel
    simp only [Prog.lift, Prog.bind_op, Prog.bind_ret, Prog.pure_eq_ret]
    iterate 6 (iapply (wp_load 𝒱₀ (c : Thread nD τ) none Set.univ (m := kvM) (kv_rect_blk (s := 1) (b := yc c) rfl hy.symm rfl rfl)) $$ HB; iintro HB)
    rw [wp_ret]; imodintro
    rw [wp_bind]
    simp only [k0_part3_eq_skeleton, k0_part13_eq_skeleton]; first | unfold k0_part3_skel | unfold k0_part13_skel
    simp only [Prog.lift, Prog.bind_op, Prog.bind_ret, Prog.pure_eq_ret]
    iterate 5 (iapply (wp_load 𝒱₀ (c : Thread nD τ) none Set.univ (m := kvM) (kv_rect_blk (s := 1) (b := yc c) rfl hy.symm rfl rfl)) $$ HB; iintro HB)
    rw [wp_ret]; imodintro
    rw [wp_bind]
    simp only [k0_part4_eq_skeleton, k0_part14_eq_skeleton]; first | unfold k0_part4_skel | unfold k0_part14_skel
    simp only [Prog.lift, Prog.bind_op, Prog.bind_ret, Prog.pure_eq_ret]
    iapply (wp_wait_dma m ρ K c (3, 0) rfl [] (fun _ h => nomatch h) rfl) $$ [Hc30 Ha30 HO]
    · isplitr; · iexact HR
      isplitr; · iexact HL
      isplitl [Hc30]; · iexact Hc30
      isplitl [Ha30]; · iexact Ha30
      iexact HO
    iintro ⟨HO, Hz30, HN0⟩
    ihave HN0 := (Entails.of_eq (dmaPay_3 m ρ c 0)) $$ HN0
    iapply (wp_wait_dma m ρ K c (3, 1) rfl [] (fun _ h => nomatch h) rfl) $$ [Hc31 Ha31 HO]
    · isplitr; · iexact HR
      isplitr; · iexact HL
      isplitl [Hc31]; · iexact Hc31
      isplitl [Ha31]; · iexact Ha31
      iexact HO
    iintro ⟨HO, Hz31, HN1⟩
    ihave HN1 := (Entails.of_eq (dmaPay_3 m ρ c 1)) $$ HN1
    iapply (wp_wait_dma m ρ K c (3, 2) rfl [] (fun _ h => nomatch h) rfl) $$ [Hc32 Ha32 HO]
    · isplitr; · iexact HR
      isplitr; · iexact HL
      isplitl [Hc32]; · iexact Hc32
      isplitl [Ha32]; · iexact Ha32
      iexact HO
    iintro ⟨HO, Hz32, HN2⟩
    ihave HN2 := (Entails.of_eq (dmaPay_3 m ρ c 2)) $$ HN2
    rw [wp_ret]; imodintro
    rw [wp_bind]
    simp only [k0_part5_eq_skeleton, k0_part15_eq_skeleton]; first | unfold k0_part5_skel | unfold k0_part15_skel
    simp only [Prog.lift, Prog.bind_op, Prog.bind_ret, Prog.pure_eq_ret]
    iapply (wp_wait_dma m ρ K c (3, 3) rfl [] (fun _ h => nomatch h) rfl) $$ [Hc33 Ha33 HO]
    · isplitr; · iexact HR
      isplitr; · iexact HL
      isplitl [Hc33]; · iexact Hc33
      isplitl [Ha33]; · iexact Ha33
      iexact HO
    iintro ⟨HO, Hz33, HN3⟩
    ihave HN3 := (Entails.of_eq (dmaPay_3 m ρ c 3)) $$ HN3
    ihave HC := (Entails.of_eq (kv_pieces c 1 (1 - yc c) fullShare (KV m ρ c)).symm) $$ [HN0 HN1 HN2 HN3]
    · isplitl [HN0]; · iexact HN0
      isplitl [HN1]; · iexact HN1
      isplitl [HN2]; · iexact HN2
      iexact HN3
    iapply (wp_load_out m ρ c 0) $$ Hout; iintro %_ Hout
    iapply (wp_store_out m ρ c 0 hy rfl rfl) $$ Hout; iintro Hout
    iapply (wp_load_out m ρ c 1) $$ Hout; iintro %_ Hout
    iapply (wp_store_out m ρ c 1 hy rfl rfl) $$ Hout; iintro Hout
    iapply (wp_load_out m ρ c 2) $$ Hout; iintro %_ Hout
    iapply (wp_store_out m ρ c 2 hy rfl rfl) $$ Hout; iintro Hout
    iapply (wp_load_out m ρ c 3) $$ Hout; iintro %_ Hout
    iapply (wp_store_out m ρ c 3 hy rfl rfl) $$ Hout; iintro Hout
    rw [wp_ret]; imodintro
    rw [wp_bind]
    simp only [k0_part6_eq_skeleton, k0_part16_eq_skeleton]; first | unfold k0_part6_skel | unfold k0_part16_skel
    simp only [Prog.lift, Prog.bind_op, Prog.bind_ret, Prog.pure_eq_ret]
    iapply (wp_load_out m ρ c 4) $$ Hout; iintro %_ Hout
    iapply (wp_store_out m ρ c 4 hy rfl rfl) $$ Hout; iintro Hout
    iapply (wp_load_out m ρ c 5) $$ Hout; iintro %_ Hout
    iapply (wp_store_out m ρ c 5 hy rfl rfl) $$ Hout; iintro Hout
    iapply (wp_load_out m ρ c 6) $$ Hout; iintro %_ Hout
    iapply (wp_store_out m ρ c 6 hy rfl rfl) $$ Hout; iintro Hout
    iapply (wp_load_out m ρ c 7) $$ Hout; iintro %_ Hout
    iapply (wp_store_out m ρ c 7 hy rfl rfl) $$ Hout; iintro Hout
    iterate 1 (iapply (wp_load 𝒱₀ (c : Thread nD τ) none Set.univ (m := kvM) (kv_rect_blk (s := 1) (b := 1 - yc c) rfl (by rw [hy]; rfl) rfl rfl)) $$ HC; iintro HC)
    rw [wp_ret]; imodintro
    rw [wp_bind]
    simp only [k0_part7_eq_skeleton, k0_part17_eq_skeleton]; first | unfold k0_part7_skel | unfold k0_part17_skel
    simp only [Prog.lift, Prog.bind_op, Prog.bind_ret, Prog.pure_eq_ret]
    iterate 6 (iapply (wp_load 𝒱₀ (c : Thread nD τ) none Set.univ (m := kvM) (kv_rect_blk (s := 1) (b := 1 - yc c) rfl (by rw [hy]; rfl) rfl rfl)) $$ HC; iintro HC)
    rw [wp_ret]; imodintro
    rw [wp_bind]
    simp only [k0_part8_eq_skeleton, k0_part18_eq_skeleton]; first | unfold k0_part8_skel | unfold k0_part18_skel
    simp only [Prog.lift, Prog.bind_op, Prog.bind_ret, Prog.pure_eq_ret]
    iterate 5 (iapply (wp_load 𝒱₀ (c : Thread nD τ) none Set.univ (m := kvM) (kv_rect_blk (s := 1) (b := 1 - yc c) rfl (by rw [hy]; rfl) rfl rfl)) $$ HC; iintro HC)
    rw [wp_ret]; imodintro
    rw [wp_bind]
    simp only [k0_part9_eq_skeleton, k0_part19_eq_skeleton]; first | unfold k0_part9_skel | unfold k0_part19_skel
    simp only [Prog.lift, Prog.bind_op, Prog.bind_ret, Prog.pure_eq_ret]
    iterate 4 (iapply (wp_load 𝒱₀ (c : Thread nD τ) none Set.univ (m := kvM) (kv_rect_blk (s := 1) (b := 1 - yc c) rfl (by rw [hy]; rfl) rfl rfl)) $$ HC; iintro HC)
    iapply (wp_load_out m ρ c 8) $$ Hout; iintro %_ Hout
    iapply (wp_store_out m ρ c 8 hy rfl rfl) $$ Hout; iintro Hout
    rw [wp_ret]; imodintro
    rw [wp_bind]
    simp only [k0_part10_eq_skeleton, k0_part20_eq_skeleton]; first | unfold k0_part10_skel | unfold k0_part20_skel
    simp only [Prog.lift, Prog.bind_op, Prog.bind_ret, Prog.pure_eq_ret]
    iapply (wp_load_out m ρ c 9) $$ Hout; iintro %_ Hout
    iapply (wp_store_out m ρ c 9 hy rfl rfl) $$ Hout; iintro Hout
    iapply (wp_load_out m ρ c 10) $$ Hout; iintro %_ Hout
    iapply (wp_store_out m ρ c 10 hy rfl rfl) $$ Hout; iintro Hout
    iapply (wp_load_out m ρ c 11) $$ Hout; iintro %_ Hout
    iapply (wp_store_out m ρ c 11 hy rfl rfl) $$ Hout; iintro Hout
    iapply (wp_load_out m ρ c 12) $$ Hout; iintro %_ Hout
    iapply (wp_store_out m ρ c 12 hy rfl rfl) $$ Hout; iintro Hout
    iapply (wp_load_out m ρ c 13) $$ Hout; iintro %_ Hout
    iapply (wp_store_out m ρ c 13 hy rfl rfl) $$ Hout; iintro Hout
    rw [wp_ret]; imodintro
    iapply (wp_load_out m ρ c 14) $$ Hout; iintro %_ Hout
    iapply (wp_store_out m ρ c 14 hy rfl rfl) $$ Hout; iintro Hout
    iapply (wp_load_out m ρ c 15) $$ Hout; iintro %_ Hout
    iapply (wp_store_out m ρ c 15 hy rfl rfl) $$ Hout; iintro Hout
    iapply (wp_wait_dma m ρ K c (0, 0) rfl [] (fun _ h => nomatch h) rfl) $$ [Hc00 Ha00 HO]
    · isplitr; · iexact HR
      isplitr; · iexact HL
      isplitl [Hc00]; · iexact Hc00
      isplitl [Ha00]; · iexact Ha00
      iexact HO
    iintro ⟨HO, Hz00, HsR0⟩
    ihave HsR0 := (Entails.of_eq (dmaPay_0 m ρ c 0)) $$ HsR0
    rw [wp_ret]; imodintro
    rw [wp_bind]
    simp only [k0_part37_eq_skeleton]; unfold k0_part37_skel
    simp only [Prog.lift, Prog.bind_op, Prog.bind_ret, Prog.pure_eq_ret]
    iapply (wp_wait_dma m ρ K c (2, 0) rfl [] (fun _ h => nomatch h) rfl) $$ [Hc20 Ha20 HO]
    · isplitr; · iexact HR
      isplitr; · iexact HL
      isplitl [Hc20]; · iexact Hc20
      isplitl [Ha20]; · iexact Ha20
      iexact HO
    iintro ⟨HO, Hz20, HP0⟩
    ihave HP0 := (Entails.of_eq (dmaPay_2 m ρ c 0)) $$ HP0
    iapply (wp_wait_dma m ρ K c (0, 1) rfl [] (fun _ h => nomatch h) rfl) $$ [Hc01 Ha01 HO]
    · isplitr; · iexact HR
      isplitr; · iexact HL
      isplitl [Hc01]; · iexact Hc01
      isplitl [Ha01]; · iexact Ha01
      iexact HO
    iintro ⟨HO, Hz01, HsR1⟩
    ihave HsR1 := (Entails.of_eq (dmaPay_0 m ρ c 1)) $$ HsR1
    iapply (wp_wait_dma m ρ K c (2, 1) rfl [] (fun _ h => nomatch h) rfl) $$ [Hc21 Ha21 HO]
    · isplitr; · iexact HR
      isplitr; · iexact HL
      isplitl [Hc21]; · iexact Hc21
      isplitl [Ha21]; · iexact Ha21
      iexact HO
    iintro ⟨HO, Hz21, HP1⟩
    ihave HP1 := (Entails.of_eq (dmaPay_2 m ρ c 1)) $$ HP1
    rw [wp_ret]; imodintro
    rw [wp_bind]
    simp only [k0_part38_eq_skeleton]; unfold k0_part38_skel
    simp only [Prog.lift, Prog.bind_op, Prog.bind_ret, Prog.pure_eq_ret]
    iapply (wp_wait_dma m ρ K c (0, 2) rfl [] (fun _ h => nomatch h) rfl) $$ [Hc02 Ha02 HO]
    · isplitr; · iexact HR
      isplitr; · iexact HL
      isplitl [Hc02]; · iexact Hc02
      isplitl [Ha02]; · iexact Ha02
      iexact HO
    iintro ⟨HO, Hz02, HsR2⟩
    ihave HsR2 := (Entails.of_eq (dmaPay_0 m ρ c 2)) $$ HsR2
    iapply (wp_wait_dma m ρ K c (2, 2) rfl [] (fun _ h => nomatch h) rfl) $$ [Hc22 Ha22 HO]
    · isplitr; · iexact HR
      isplitr; · iexact HL
      isplitl [Hc22]; · iexact Hc22
      isplitl [Ha22]; · iexact Ha22
      iexact HO
    iintro ⟨HO, Hz22, HP2⟩
    ihave HP2 := (Entails.of_eq (dmaPay_2 m ρ c 2)) $$ HP2
    iapply (wp_wait_dma m ρ K c (0, 3) rfl [] (fun _ h => nomatch h) rfl) $$ [Hc03 Ha03 HO]
    · isplitr; · iexact HR
      isplitr; · iexact HL
      isplitl [Hc03]; · iexact Hc03
      isplitl [Ha03]; · iexact Ha03
      iexact HO
    iintro ⟨HO, Hz03, HsR3⟩
    ihave HsR3 := (Entails.of_eq (dmaPay_0 m ρ c 3)) $$ HsR3
    rw [wp_ret]; imodintro
    iapply (wp_wait_dma m ρ K c (2, 3) rfl [] (fun _ h => nomatch h) rfl) $$ [Hc23 Ha23 HO]
    · isplitr; · iexact HR
      isplitr; · iexact HL
      isplitl [Hc23]; · iexact Hc23
      isplitl [Ha23]; · iexact Ha23
      iexact HO
    iintro ⟨HO, Hz23, HP3⟩
    ihave HP3 := (Entails.of_eq (dmaPay_2 m ρ c 3)) $$ HP3
    rw [wp_ret]; imodintro
    iapply HK
    unfold left
    -- the exchanged buffer is whole again
    ihave HsR := (Entails.of_eq (kv_pieces c 0 (yc c) fullShare.right (KV m ρ c)).symm) $$ [HsR0 HsR1 HsR2 HsR3]
    · isplitl [HsR0]; · iexact HsR0
      isplitl [HsR1]; · iexact HsR1
      isplitl [HsR2]; · iexact HsR2
      iexact HsR3
    ihave HsR := (Entails.of_eq (kv_slot0 c fullShare.right (KV m ρ c)).symm) $$ [HsR HsN]
    · isplitl [HsR]; · iexact HsR
      iexact HsN
    ihave H0 := (kv_halves c (slot 0) (KV m ρ c)).2 $$ [HsL HsR]
    · isplitl [HsL]; · iexact HsL
      iexact HsR
    ihave HP := (Entails.of_eq (kv_pieces c 1 (yc c) fullShare.right (KV m ρ c)).symm) $$ [HP0 HP1 HP2 HP3]
    · isplitl [HP0]; · iexact HP0
      isplitl [HP1]; · iexact HP1
      isplitl [HP2]; · iexact HP2
      iexact HP3
    ihave HB := (kv_halves c (blk 1 (yc c)) (KV m ρ c)).2 $$ [HB HP]
    · isplitl [HB]; · iexact HB
      iexact HP
    isplitl [H0 HB HC]
    · iapply (Entails.of_eq (kv_whole c (KV m ρ c)).symm)
      isplitl [H0]; · iexact H0
      isplitl [HB]; · iexact HB
      iexact HC
    isplitl [HzB Hz00 Hz01 Hz02 Hz03 Hz10 Hz11 Hz12 Hz13 Hz20 Hz21 Hz22 Hz23 Hz30 Hz31 Hz32 Hz33]
    · isplitl [HzB]; · iexact HzB
      isplitl [Hz00 Hz01 Hz02 Hz03]
      · isplitl [Hz00]; · iexact Hz00
        isplitl [Hz01]; · iexact Hz01
        isplitl [Hz02]; · iexact Hz02
        iexact Hz03
      isplitl [Hz10 Hz11 Hz12 Hz13]
      · isplitl [Hz10]; · iexact Hz10
        isplitl [Hz11]; · iexact Hz11
        isplitl [Hz12]; · iexact Hz12
        iexact Hz13
      isplitl [Hz20 Hz21 Hz22 Hz23]
      · isplitl [Hz20]; · iexact Hz20
        isplitl [Hz21]; · iexact Hz21
        isplitl [Hz22]; · iexact Hz22
        iexact Hz23
      isplitl [Hz30]; · iexact Hz30
      isplitl [Hz31]; · iexact Hz31
      isplitl [Hz32]; · iexact Hz32
      iexact Hz33
    isplitl [HO]; · iexact HO
    isplitl [Hq]; · iexact Hq
    isplitl [Hk]; · iexact Hk
    isplitl [Hv]; · iexact Hv
    iexact Hout

end Cert.Kernel.Exchange

end
-- ==== Proof.Launch.lean ====
/-
# Launch — the four devices' bodies put together into a run of the whole program

The launch deals every device the positions of its own cells, the tokens of the duties it pays (minted with the cell they
are paid at, then passed to the partner that pays them) and the credits of what the other devices owe it; the invariants
are allocated for all devices at once, since a device opens its partners' cells too. `run_main` is the result: every
fair execution ends with each window's array as the proof data say and all counters at zero.
-/
module

public import proofs.«01_k».proof.Proof.Body
public import Idealize.ShloMosaic.Lib.Pipeline.Kit
public import Idealize.ShloMosaic.Lib.Pipeline.CollectiveSegs
public import Idealize.ShloMosaic.Adequacy
public import Idealize.ShloMosaic.Init

@[expose] public section

noncomputable section

namespace Cert.Kernel.Exchange

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## Conjunctions over the cells of one device -/

/-- `Φ` at the barrier's cell and at the four families of DMA cells. -/
abbrev cells (Φ : Option J → sProp 𝕄) : sProp 𝕄 :=
  iprop(Φ none ∗ four (fun p => Φ (some (0, p))) ∗ four (fun p => Φ (some (1, p))) ∗ four (fun p => Φ (some (2, p))) ∗ four (fun p => Φ (some (3, p))))

omit [FloatOps F] in
theorem bigSep_four (Φ : Fin 4 → sProp 𝕄) : bigSep Finset.univ Φ = four Φ := bigSep_univ_eq_bigSepL [0, 1, 2, 3] (by decide) (by decide) Φ
omit [FloatOps F] in
theorem bigSep_J (Φ : J → sProp 𝕄) : bigSep Finset.univ Φ
    = iprop(four (fun p => Φ (0, p)) ∗ four (fun p => Φ (1, p)) ∗ four (fun p => Φ (2, p)) ∗ four (fun p => Φ (3, p))) := by
  rw [bigSep_univ_prod, bigSep_congr fun k _ => bigSep_four (F := F) fun p => Φ (k, p), bigSep_four]
omit [FloatOps F] in
theorem bigSep_option {I : Type} [Fintype I] [DecidableEq I] (Φ : Option I → sProp 𝕄) :
    bigSep Finset.univ Φ = iprop(Φ none ∗ bigSep Finset.univ fun j : I => Φ (some j)) := by
  rw [bigSep_univ_at Φ none]
  congr 1
  rw [show (Finset.univ : Finset (Option I)).erase none = Finset.univ.map Function.Embedding.some by ext x; cases x <;> simp, bigSep_map]
  rfl
omit [FloatOps F] in
theorem bigSep_cells (Φ : Option J → sProp 𝕄) : bigSep Finset.univ Φ = cells Φ := by
  rw [bigSep_option, bigSep_J]

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def start (c : Dev nD) : sProp 𝕄 := iprop((∃ K, ghost m ρ K c) ∗ credits c ∗ levAts L lv)

/-- Before the body: what it starts from, and the exchanged buffer at any contents. -/
def Φ₀ (c : Dev nD) : sProp 𝕄 := iprop(start m ρ c ∗ ∃ f, kvP c Finset.univ fullShare f)
/-- After it: the exchanged buffer, and all the device's cells closed, their counters at zero. -/
def Φ₁ (c : Dev nD) : sProp 𝕄 := iprop((∃ f, kvP (F := F) c Finset.univ fullShare f) ∗ cells (fun k => semVal (kcell (c, k)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m ρ c
    | ⟨1, _⟩ => kst m ρ c
    | ⟨2, _⟩ => vst m ρ c
    | ⟨3, _⟩ => outAt m ρ c
  Φ t := match t with
    | ⟨0, _⟩ => Φ₀ m ρ c
    | ⟨_ + 1, _⟩ => Φ₁ c
  q _ := fullShare
  owed t := match t with
    | ⟨0, _⟩ => owe (pays c)
    | ⟨_ + 1, _⟩ => owe []

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_q : (cfg0.win (0 : Fin 4)).fetch t₀ = true := rfl
theorem fetch_k : (cfg0.win (1 : Fin 4)).fetch t₀ = true := rfl
theorem fetch_v : (cfg0.win (2 : Fin 4)).fetch t₀ = true := rfl

/-- A staging buffer of device `c` whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_q (c : Dev nD) (d) : (dats m ρ 0 c).before (0 : Fin 4) t₀ d = qst m ρ c := by
  unfold Dat.before; rw [if_pos fetch_q]; rfl
theorem before_k (c : Dev nD) (d) : (dats m ρ 0 c).before (1 : Fin 4) t₀ d = kst m ρ c := by
  unfold Dat.before; rw [if_pos fetch_k]; rfl
theorem before_v (c : Dev nD) (d) : (dats m ρ 0 c).before (2 : Fin 4) t₀ d = vst m ρ c := by
  unfold Dat.before; rw [if_pos fetch_v]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ ∗ stg c cc0_stg0_0 (qst m ρ c) ∗ stg c cc0_stg1_0 (kst m ρ c)
    ∗ stg c cc0_stg2_0 (vst m ρ c) ∗ stg c cc0_stg3_0 (outAt m ρ c))

/-- What the body leaves is what the pipeline expects after it. -/
theorem left_post (c : Dev nD) : left m ρ c ⊢ bodyPost m ρ c := by
  unfold left bodyPost Φ₁ Dat.owesAt Pipeline.owesWithin owing outP
  rw [show (dats m ρ 0 c).owed t₀.succ = owe [] from rfl]
  iintro ⟨Hkv, Hz, ⟨%W, HO⟩, Hq, Hk, Hv, ⟨%f, %hf, Hout⟩⟩
  isplitl [Hkv Hz]
  · isplitl [Hkv]; · iexists _; iexact Hkv
    iexact Hz
  isplitl [HO]
  · iexists W
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists f; isplitr; · (ipureintro; exact done_all m ρ c f hf)
  iexact Hout

set_option maxRecDepth 4000 in
/-- The body, from what the pipeline hands it to what the pipeline expects. -/
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) cc0_scratch1 cc0_scratch2 cc0_scratch3 cc0_scratch4) (fun _ => bodyPost m ρ c) := by
  unfold bodyPre Φ₀ start
  iintro ⟨⟨⟨⟨%K, Hg⟩, Hcr, Hlev⟩, Hscr⟩, Ho, ⟨%d0, %g0, %h0, Hq⟩, ⟨%d1, %g1, %h1, Hk⟩, ⟨%d2, %g2, %h2, Hv⟩, ⟨%d3, %g3, %h3, Hout⟩⟩
  have h0 := h0.trans (before_q m ρ c d0)
  have h1 := h1.trans (before_k m ρ c d1)
  have h2 := h2.trans (before_v m ρ c d2)
  subst h0 h1 h2
  unfold Dat.owesAt Pipeline.owesWithin
  icases Ho with ⟨%W, %hW, HO⟩
  rw [show (dats m ρ 0 c).owed t₀.castSucc = owe (pays c) from rfl]
  iapply (body_wp m ρ K c fun _ => bodyPost m ρ c)
  isplitl [Hg]; · iexact Hg
  isplitl [Hcr]; · iexact Hcr
  isplitl [Hlev]; · iexact Hlev
  isplitl [Hscr]; · iexact Hscr
  isplitl [HO]; · unfold owing; iexists W; iexact HO
  isplitl [Hq]; · iexact Hq
  isplitl [Hk]; · iexact Hk
  isplitl [Hv]; · iexact Hv
  isplitl [Hout]
  · unfold outP; iexists g3
    isplitr; · ipureintro; exact done_zero m ρ c g3
    iexact Hout
  iintro Hl
  iapply (left_post m ρ c); iexact Hl

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties, by cell: the first of each cell, and (`none`) the barrier's second. -/
abbrev tokOf (cj : Dev nD × Option (Option J)) : GSem nD τ sig × ℕ × Bool := match cj.2 with
  | none => (bCell cj.1, 0, true)
  | some k => (kcell (cj.1, k), 0, false)
theorem tokOf_injective : Function.Injective (tokOf : Dev nD × Option (Option J) → GSem nD τ sig × ℕ × Bool) := by
  rintro ⟨c, _ | k⟩ ⟨c', _ | k'⟩ h
  · rw [show c = c' from congrArg (fun x : GSem nD τ sig × ℕ × Bool => x.1.1.1) h]
  · exact absurd (congrArg (fun x : GSem nD τ sig × ℕ × Bool => x.2.2) h) (fun h' => by cases h')
  · exact absurd (congrArg (fun x : GSem nD τ sig × ℕ × Bool => x.2.2) h) (fun h' => by cases h')
  · have e := kcell_injective (congrArg Prod.fst h : kcell (c, k) = kcell (c', k'))
    rw [show c = c' from congrArg Prod.fst e, show k = k' from congrArg Prod.snd e]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop(dutyTok EX (bCell c) 0 true ∗ cells (fun k => dutyTok EX (kcell (c, k)) 0 false))

/-- What the launch element deals device `c`. -/
def G (c : Dev nD) : sProp 𝕄 :=
  iprop((bigSep Finset.univ fun k : Option J => roundState EX (Rd m ρ) (kcell (c, k)) 0)
    ∗ (bigSep Finset.univ fun k : Option J => iprop(atPos EX (kcell (c, k)) 0 ∅ 0 ∗ reached EX (kcell (c, k)) 0)) ∗ toks c)
/-- What the step over all devices makes of it. -/
def G' (c : Dev nD) : sProp 𝕄 := iprop(∃ K, ghost m ρ K c)

theorem fund_exchange : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Option J => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_option, bigSep_cells]; rfl
  iintro HX
  imod (Rounds.fund EX (Rd m ρ) allCells allToks) $$ HX with ⟨Hst, Hr, Hat, Htok⟩
  imodintro
  ihave Hst' := (Entails.of_eq (hX fun g => roundState EX (Rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : J => semVal (kcell (c, some j)) 0 := rfl
omit [FloatOps F] in
theorem unscopedSems0_eq (c : Dev nD) : (unscopedSems0 c : sProp 𝕄) = semVal (kcell (c, none)) 0 := by
  unfold unscopedSems0; rw [bigSep_eq_bigSepL_of_eq [SemLoc.reg bS] (by decide) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Option J => semVal (kcell (c, k)) 0 : sProp 𝕄) := by
  rw [ownSems0_eq, unscopedSems0_eq, bigSep_option]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Option J => semVal (kcell (c, k)) 0) ∗ bigSep Finset.univ fun k : Option J => roundState EX (Rd m ρ) (kcell (c, k)) 0)
      ⊢ (|={Set.univ}=> bigSep Finset.univ fun k => iprop(∃ κ : ℕ, cellInv EX (Rd m ρ) κ (kcell (c, k))) : sProp 𝕄) from by
        rw [← bigSep_sep']
        exact (bigSep_mono fun k _ => (Rounds.body_intro EX (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok EX (bCell (xp c)) 0 false ∗ dutyTok EX (bCell (yp c)) 0 true
      ∗ four (fun p => dutyTok EX (dCell c (0, p)) 0 false) ∗ four (fun p => dutyTok EX (dCell (xp c) (1, p)) 0 false)
      ∗ four (fun p => dutyTok EX (dCell c (2, p)) 0 false) ∗ four (fun p => dutyTok EX (dCell (yp c) (3, p)) 0 false))

omit [FloatOps F] in
/-- The tokens passed to the partners that pay with them. -/
theorem toks_around : (bigSep Finset.univ fun c : Dev nD => (toks c : sProp 𝕄)) ⊢ bigSep Finset.univ fun c : Dev nD => payToks c := by
  unfold toks payToks cells
  simp only [bigSep_sep']
  rw [bigSep_univ_equiv ySwap (fun c : Dev nD => (dutyTok EX (bCell c) 0 true : sProp 𝕄)),
    bigSep_univ_equiv xSwap (fun c : Dev nD => (dutyTok EX (kcell (c, none)) 0 false : sProp 𝕄)),
    bigSep_univ_equiv xSwap (fun c : Dev nD => (dutyTok EX (kcell (c, some (1, 0))) 0 false : sProp 𝕄)),
    bigSep_univ_equiv xSwap (fun c : Dev nD => (dutyTok EX (kcell (c, some (1, 1))) 0 false : sProp 𝕄)),
    bigSep_univ_equiv xSwap (fun c : Dev nD => (dutyTok EX (kcell (c, some (1, 2))) 0 false : sProp 𝕄)),
    bigSep_univ_equiv xSwap (fun c : Dev nD => (dutyTok EX (kcell (c, some (1, 3))) 0 false : sProp 𝕄)),
    bigSep_univ_equiv ySwap (fun c : Dev nD => (dutyTok EX (kcell (c, some (3, 0))) 0 false : sProp 𝕄)),
    bigSep_univ_equiv ySwap (fun c : Dev nD => (dutyTok EX (kcell (c, some (3, 1))) 0 false : sProp 𝕄)),
    bigSep_univ_equiv ySwap (fun c : Dev nD => (dutyTok EX (kcell (c, some (3, 2))) 0 false : sProp 𝕄)),
    bigSep_univ_equiv ySwap (fun c : Dev nD => (dutyTok EX (kcell (c, some (3, 3))) 0 false : sProp 𝕄))]
  iintro ⟨HT, HF, H⟩
  isplitl [HF]; · iexact HF
  isplitl [HT]; · iexact HT
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Option J → ℕ) (c : Dev nD) :
    iprop(recs m ρ K ∗ cells (fun k => atPos EX (kcell (c, k)) 0 ∅ 0) ∗ payToks c) ⊢ G' m ρ c := by
  unfold G' ghost payToks
  iintro H
  iexists K
  iexact H

theorem regroup :
    (bigSep Finset.univ fun c : Dev nD => iprop((bigSep Finset.univ fun k => iprop(∃ κ : ℕ, cellInv EX (Rd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Option J => iprop(∃ κ : ℕ, cellInv EX (Rd m ρ) κ (kcell ck))),
    bigSep_congr (s := Finset.univ) (fun (c : Dev nD) _ => bigSep_sep' Finset.univ (fun k : Option J => (atPos EX (kcell (c, k)) 0 ∅ 0 : sProp 𝕄)) (fun k => reached EX (kcell (c, k)) 0)),
    bigSep_sep', ← bigSep_univ_prod (fun ck : Dev nD × Option J => (reached EX (kcell ck) 0 : sProp 𝕄))]
  iintro ⟨HI, ⟨Hat, #HR⟩, Htok⟩
  ihave HK := (BI.bigSep_exists_pi Finset.univ (fun (ck : Dev nD × Option J) (κ : ℕ) => (cellInv EX (Rd m ρ) κ (kcell ck) : sProp 𝕄))) $$ HI
  icases HK with ⟨%K, #HI⟩
  ihave Htk := (toks_around (F := F)) $$ Htok
  iapply (bigSep_with_persistent (R := recs m ρ K) fun c _ => ghost_intro m ρ K c)
  isplitr
  · unfold recs; isplitl; · iexact HI
    iexact HR
  · rw [bigSep_sep']
    isplitl [Hat]
    · iapply (Entails.of_eq (bigSep_congr (s := Finset.univ) fun (c : Dev nD) _ => bigSep_cells (F := F) fun k => atPos EX (kcell (c, k)) 0 ∅ 0))
      iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- How many payments all devices together make at a cell. -/
theorem owed_count (ck : Dev nD × Option J) :
    ∑ d : Dev nD, owe (pays d) (kcell ck) () = (∑ d : Dev nD, (pays d).count ck) * unit ck.2 := by
  rw [Finset.sum_mul]; exact Finset.sum_congr rfl fun d _ => owe_at _ _

theorem count_bar : ∀ c : Dev nD, ∑ d : Dev nD, (pays d).count (c, none) = 2 := by decide
theorem count_direct : ∀ (c : Dev nD) (p : Fin 4), ∑ d : Dev nD, (pays d).count (c, some (1, p)) = 1 := by decide
theorem count_forward : ∀ (c : Dev nD) (p : Fin 4), ∑ d : Dev nD, (pays d).count (c, some (3, p)) = 1 := by decide

omit [FloatOps F] in
theorem launch_credit (c : Dev nD) (k : Option J) {n : ℕ} (hn : (∑ d : Dev nD, (pays d).count (c, k)) * unit k = n) :
    tallyOn (kcell (c, k)) (launchCredit (Pipeline.owing fun d => owe (pays d)) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_count, hn]

omit [FloatOps F] in
theorem creds (c : Dev nD) : (Pipeline.launchCred (fun d => owe (pays d)) c : sProp 𝕄) ⊢ credits c := by
  unfold Pipeline.launchCred
  refine (bigSep_subset (Finset.subset_univ (Finset.univ.map ⟨csem, csem_injective⟩))).trans ?_
  rw [bigSep_map, bigSep_cells]
  have e (k : Option J) : (cred (tallyOn (kcell (c, k)) (launchCredit (Pipeline.owing fun d => owe (pays d)) 0 (kcell (c, k)))) : sProp 𝕄)
      = credit c k ((∑ d : Dev nD, (pays d).count (c, k)) * unit k) := by rw [launch_credit c k rfl]
  have e0 := e none
  have e1 (p : Fin 4) := e (some (1, p))
  have e3 (p : Fin 4) := e (some (3, p))
  rw [count_bar] at e0
  simp only [count_direct, Nat.one_mul] at e1
  simp only [count_forward, Nat.one_mul] at e3
  unfold credits
  show (cells _ : sProp 𝕄) ⊢ iprop(_ ∗ _ ∗ _)
  unfold cells
  iintro ⟨H0, -, ⟨H10, H11, H12, H13⟩, -, ⟨H30, H31, H32, H33⟩⟩
  isplitl [H0]; · iapply (Entails.of_eq e0); iexact H0
  isplitl [H10 H11 H12 H13]
  · isplitl [H10]; · iapply (Entails.of_eq (e1 0)); iexact H10
    isplitl [H11]; · iapply (Entails.of_eq (e1 1)); iexact H11
    isplitl [H12]; · iapply (Entails.of_eq (e1 2)); iexact H12
    iapply (Entails.of_eq (e1 3)); iexact H13
  isplitl [H30]; · iapply (Entails.of_eq (e3 0)); iexact H30
  isplitl [H31]; · iapply (Entails.of_eq (e3 1)); iexact H31
  isplitl [H32]; · iapply (Entails.of_eq (e3 2)); iexact H32
  iapply (Entails.of_eq (e3 3)); iexact H33

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (fun d => owe (pays d)) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← bigSep_cells, ← sems0_eq]
  iintro ⟨Hr, HzB, HzJ⟩
  isplitl [HzB]; · iexact HzB
  isplitl [HzJ] <;> iassumption

theorem pays_positive : ∀ c : Dev nD, ∀ p ∈ pays c, 0 < lvS (csem p.2) := by decide

theorem waits (c : Dev nD) : (levAts L lv : sProp 𝕄) ⊢ Pipeline.cellsWaits cfgs (dats m ρ) () 0 c :=
  Pipeline.cellsWaits_intro cfgs (dats m ρ) () 0 c fun w s t => by
    have hl : lvS (SemLoc.dma ((cfg0.win w).sem s)) = 0 := by fin_cases w <;> fin_cases s <;> rfl
    rcases t with ⟨_ | _, ht⟩
    · exact mayWait c _ (pays c) fun p hp => by rw [hl]; exact pays_positive c p hp
    · exact mayWait c _ [] fun _ h => nomatch h

/-! ### The run -/

def finalA (c : Dev nD) (w : Fin cfg0.W) : Buf (Elt F) ((cfg0.win w).arr.view.loc (c : Thread nD τ)) := (dats m ρ 0 c).arrAt w cfg0.N

set_option maxRecDepth 8000 in
/-- From any memory with zero counters, every weakly fair execution of the program on the four devices terminates, each
    window's array is then what the proof data say, and every counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe (pays d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The run, at the program's own arrays: the arguments unchanged and all counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c (0 : Fin 4)).trans (finalA_in m ρ c (0 : Fin 4) rfl),
    (h.1 c (1 : Fin 4)).trans (finalA_in m ρ c (1 : Fin 4) rfl), (h.1 c (2 : Fin 4)).trans (finalA_in m ρ c (2 : Fin 4) rfl)⟩, h.2⟩) (run_main m ρ)

end Cert.Kernel.Exchange

end
-- ==== Proof.Same.lean ====
/-
# Same — the idealized program is the program itself

The ideal pass rewrote nothing, so the two printed programs are the same text: what is proved of the runs of the one
holds of the runs of the other.
-/
module

public import proofs.«01_k».proof.Proof.Launch
public import proofs.«01_k».proof.Proof.Gen.KernelIdeal

@[expose] public section

noncomputable section

namespace Cert.Kernel.Exchange

open Cert.Kernel

open Idealize.ShloMosaic Idealize.ShloMosaic.TcCoe Idealize.SL.Sem

variable {F : FTy → Type} [FloatOps F]

set_option maxRecDepth 100000
set_option maxHeartbeats 40000000

theorem defs₀_same : Cert.KernelIdeal.defs₀ (F := F) = defs₀ (F := F) :=
  congrArg Defs.onTc (funext fun l => funext fun a => by
    obtain ⟨_ | n, h⟩ := l
    · rfl
    · exact absurd h (Nat.not_lt.2 (Nat.le_add_left _ _)))
theorem defs_same : Cert.KernelIdeal.defs (F := F) = defs (F := F) := congrArg (Pipeline.defs pcfgs) defs₀_same
theorem main_same : Cert.KernelIdeal.main (F := F) = main (F := F) := funext fun _ => rfl

/-- A run of the program is a run of the idealized one. -/
theorem run_ideal {s : MemSt nD τ sig (Elt F)} {Q} (h : θ_run (defs (F := F)) (onTc (τ := τ) (main (F := F))) s Q) :
    θ_run (Cert.KernelIdeal.defs (F := F)) (onTc (τ := Cert.KernelIdeal.τ) (Cert.KernelIdeal.main (F := F))) s Q :=
  (congrArg₂ (fun d p => θ_run d (onTc (τ := τ) p) s Q) defs_same main_same).mpr h

end Cert.Kernel.Exchange

end
-- ==== Proof.Softmax.lean ====
/-
# Softmax — the weights of a row, with and without its maximum subtracted

Over the extended reals, where the scores are finite, the quotient of the sum of the values weighted with the exponentials
of the scores by the sum of the exponentials is the sum of the values weighted with the normalized exponentials, whatever
finite number was subtracted from the scores first. The values need not be finite.
-/
module

public import Idealize.ShloMosaic.Lib.IdealHost

@[expose] public section

noncomputable section

namespace Cert.Softmax

open Idealize.ShloMosaic

variable {ι : Type} [Fintype ι]

theorem coe_sum (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A finite factor that is not negative goes into a sum. -/
theorem sum_mul (s : Finset ι) (f : ι → EReal) {r : ℝ} (hr : 0 ≤ r) : (∑ k ∈ s, f k) * (r : EReal) = ∑ k ∈ s, f k * (r : EReal) := by
  classical
  induction s using Finset.induction_on with
  | empty => simp
  | insert a s h ih =>
    rw [Finset.sum_insert h, Finset.sum_insert h, ← ih, mul_comm _ (r : EReal), mul_comm _ (r : EReal), mul_comm _ (r : EReal)]
    exact EReal.left_distrib_of_nonneg_of_ne_top (EReal.coe_nonneg.2 hr) (EReal.coe_ne_top r) _ _

theorem div_coe {x : EReal} {r : ℝ} (hr : r ≠ 0) : Ideal.div x r = x * ((r⁻¹ : ℝ) : EReal) := by
  rw [Ideal.div, if_neg (by exact_mod_cast hr), EReal.coe_inv]

/-- The maximum of finitely many finite numbers is finite. -/
theorem fold_max [Nonempty ι] (x : ι → ℝ) : ∃ M : ℝ, Finset.univ.fold max (⊥ : EReal) (fun k => (x k : EReal)) = M := by
  refine ⟨_, (EReal.coe_toReal ?_ ?_).symm⟩
  · exact ne_of_lt ((Finset.fold_max_lt _).2 ⟨bot_lt_top, fun k _ => EReal.coe_lt_top _⟩)
  · obtain ⟨k⟩ := ‹Nonempty ι›
    exact ne_of_gt (lt_of_lt_of_le (EReal.bot_lt_coe (x k)) ((Finset.le_fold_max _).2 (Or.inr ⟨k, Finset.mem_univ k, le_rfl⟩)))

theorem normalize [Nonempty ι] (x : ι → ℝ) (v : ι → EReal) (M : ℝ) :
    Ideal.div (∑ k, Ideal.exp (x k) * v k) (∑ k, Ideal.exp (x k))
      = ∑ k, v k * Ideal.div (Ideal.exp ((x k : EReal) - M)) (∑ k, Ideal.exp ((x k : EReal) - M)) := by
  have he : ∀ r : ℝ, Ideal.exp (r : EReal) = (Real.exp r : EReal) := fun _ => rfl
  have hs : ∀ k, Ideal.exp ((x k : EReal) - M) = ((Real.exp (x k) * Real.exp (-M) : ℝ) : EReal) := fun k => by
    rw [← EReal.coe_sub, he, sub_eq_add_neg, Real.exp_add]
  have hD : 0 < ∑ k, Real.exp (x k) := Finset.sum_pos (fun k _ => Real.exp_pos _) Finset.univ_nonempty
  have hE : 0 < Real.exp (-M) := Real.exp_pos _
  simp only [hs, he, coe_sum, ← Finset.sum_mul]
  rw [div_coe hD.ne', sum_mul _ _ (inv_nonneg.2 hD.le)]
  refine Finset.sum_congr rfl fun k _ => ?_
  rw [div_coe (mul_pos hD hE).ne', ← EReal.coe_mul, show Real.exp (x k) * Real.exp (-M) * ((∑ k, Real.exp (x k)) * Real.exp (-M))⁻¹
    = Real.exp (x k) * (∑ k, Real.exp (x k))⁻¹ by field_simp, EReal.coe_mul, mul_comm (Real.exp (x k) : EReal), mul_assoc]

/-- A sum over 1024 keys, as the half that `x` names and the other one. -/
def key (x : Fin 2) (j : Fin 512) : Fin 1024 := ⟨512 * x.val + j.val, by omega⟩

/-- Column `d` of head `h`. -/
def column (h : Fin 8) (d : Fin 64) : Fin 512 := ⟨64 * h.val + d.val, by omega⟩

theorem sum_halves {M : Type*} [AddCommMonoid M] (x : Fin 2) (f : Fin 1024 → M) :
    ∑ k, f k = (∑ j, f (key x j)) + ∑ j, f (key (1 - x) j) := by
  have h : ∑ k, f k = (∑ j, f (key 0 j)) + ∑ j, f (key 1 j) := by
    rw [← Equiv.sum_comp (finCongr (show 512 + 512 = 1024 from rfl)) f, Fin.sum_univ_add]
    refine congrArg₂ (· + ·) (Finset.sum_congr rfl fun j _ => congrArg f (Fin.ext ?_)) (Finset.sum_congr rfl fun j _ => congrArg f (Fin.ext ?_))
    · show j.val = 512 * 0 + j.val; omega
    · show 512 + j.val = 512 * 1 + j.val; omega
  match x with
  | ⟨0, _⟩ => exact h
  | ⟨1, _⟩ => rw [h, add_comm]; rfl

/-- The scale of the scores. -/
abbrev scale : EReal := ((1 / 8 : ℝ) : EReal)

theorem scale_f32 : Ideal.ofBits .f32 0x3E000000#32 = scale := by
  simp [Ideal.ofBits, Ideal.ieee, scale]
  rw [← EReal.coe_mul]; norm_num
theorem scale_bf16 : Ideal.ofBits .bf16 0x3E00#16 = scale := by
  simp [Ideal.ofBits, Ideal.ieee, scale]
  rw [← EReal.coe_mul]; norm_num
theorem bot_f32 : Ideal.ofBits .f32 0xFF800000#32 = (⊥ : EReal) := by simp [Ideal.ofBits, Ideal.ieee]
theorem top_bf16 : Ideal.ofBits .bf16 0x7F80#16 = (⊤ : EReal) := by simp [Ideal.ofBits, Ideal.ieee]

/-- The score of a query with a key. -/
def score (q k : Fin 64 → EReal) : EReal := (∑ d, q d * k d) * scale

theorem score_scaled (q k : Fin 64 → EReal) : ∑ d, q d * scale * k d = score q k := by
  rw [score, sum_mul _ _ (by norm_num)]
  exact Finset.sum_congr rfl fun d _ => by rw [mul_assoc, mul_comm scale, mul_assoc]

theorem score_finite {q k : Fin 64 → EReal} (hq : ∀ d, ∃ a : ℝ, q d = a) (hk : ∀ d, ∃ a : ℝ, k d = a) : ∃ a : ℝ, score q k = a := by
  choose a ha using hq
  choose b hb using hk
  refine ⟨(∑ d, a d * b d) * (1 / 8), ?_⟩
  simp only [score, ha, hb, ← EReal.coe_mul, coe_sum]

/-- What the attention of one query gives: the values weighted with the normalized exponentials, each score less their
    maximum. -/
def attend (q : Fin 64 → EReal) (k : Fin 1024 → Fin 64 → EReal) (v : Fin 1024 → EReal) : EReal :=
  ∑ i, v i * Ideal.div (Ideal.exp (score q (k i) - Finset.univ.fold max ⊥ fun i => score q (k i)))
    (∑ i, Ideal.exp (score q (k i) - Finset.univ.fold max ⊥ fun i => score q (k i)))

/-- The exponentials' sum over half of the keys, weighted with `v`. -/
def part (q : Fin 64 → EReal) (k : Fin 512 → Fin 64 → EReal) (v : Fin 512 → EReal) : EReal :=
  ∑ j, Ideal.exp (∑ d, q d * scale * k j d) * v j

theorem attend_halves (x : Fin 2) (q : Fin 64 → EReal) (k : Fin 1024 → Fin 64 → EReal) (v : Fin 1024 → EReal)
    (hq : ∀ d, ∃ a : ℝ, q d = a) (hk : ∀ i d, ∃ a : ℝ, k i d = a) :
    Ideal.div (part q (k ∘ key x) (v ∘ key x) + part q (k ∘ key (1 - x)) (v ∘ key (1 - x)))
        (part q (k ∘ key x) (fun _ => 1) + part q (k ∘ key (1 - x)) (fun _ => 1))
      = attend q k v := by
  unfold part attend
  simp only [score_scaled, mul_one, Function.comp]
  rw [← sum_halves x fun i => Ideal.exp (score q (k i)) * v i, ← sum_halves x fun i => Ideal.exp (score q (k i))]
  choose s hs using fun i => score_finite hq (hk i)
  simp only [hs]
  obtain ⟨M, hM⟩ := fold_max s
  rw [hM]
  exact normalize s v M

end Cert.Softmax

end
-- ==== Proof.Value.lean ====
/-
# Value — the kernel's result, element by element, over the extended reals

The result of a head at a row is the quotient of the two sums of `Softmax.part` over the two slots of the exchanged
buffer.
-/
module

public import proofs.«01_k».proof.Proof.Launch
public import proofs.«01_k».proof.Proof.Softmax
public import Idealize.ShloMosaic.Lib.Pipeline.ValueKit
public import Idealize.ShloMosaic.Lib.Pointwise

@[expose] public section

noncomputable section

namespace Cert.Kernel.Exchange

open Cert.Kernel Cert.Kernel.Gen Cert.Softmax

open Idealize.ShloMosaic Idealize.ShloMosaic.TcCoe Idealize.SL.Sem

section Run

variable {F : FTy → Type} [FloatOps F] (m : (ℓ : Loc nD τ sig) → Buf (Elt F) ℓ) (ρ : Dev nD → PrngReg)

/-- The result's array after the run. -/
theorem finalA_out (c : Dev nD) : finalA m ρ c (3 : Fin 4) = outAt m ρ c := by
  refine (dats m ρ 0 c).arrAt_eq_of_covers (3 : Fin 4) _ (by decide +kernel) fun t hf y => ?_
  show outAt m ρ c y = _
  refine congrArg (outAt m ρ c) (funext fun a => Fin.ext ?_)
  match a with
  | ⟨0, _⟩ | ⟨1, _⟩ | ⟨2, _⟩ =>
    blk_simp
    exact (Nat.zero_add _).symm.trans (congrArg (· + _) (Nat.zero_mul _).symm)

theorem qst_apply (c : Dev nD) (i : S2x512x512.Idx) : qst m ρ c i = m ((c : Thread nD τ).loc main_arg0) i := by
  refine congrArg (m ((c : Thread nD τ).loc main_arg0)) (funext fun a => Fin.ext ?_)
  match a with
  | ⟨0, _⟩ | ⟨1, _⟩ | ⟨2, _⟩ =>
    blk_simp
    exact (congrArg (· + _) (Nat.zero_mul _)).trans (Nat.zero_add _)
theorem kst_apply (c : Dev nD) (i : S2x512x512.Idx) : kst m ρ c i = m ((c : Thread nD τ).loc main_arg1) i := by
  refine congrArg (m ((c : Thread nD τ).loc main_arg1)) (funext fun a => Fin.ext ?_)
  match a with
  | ⟨0, _⟩ | ⟨1, _⟩ | ⟨2, _⟩ =>
    blk_simp
    exact (congrArg (· + _) (Nat.zero_mul _)).trans (Nat.zero_add _)
theorem vst_apply (c : Dev nD) (i : S2x512x512.Idx) : vst m ρ c i = m ((c : Thread nD τ).loc main_arg2) i := by
  refine congrArg (m ((c : Thread nD τ).loc main_arg2)) (funext fun a => Fin.ext ?_)
  match a with
  | ⟨0, _⟩ | ⟨1, _⟩ | ⟨2, _⟩ =>
    blk_simp
    exact (congrArg (· + _) (Nat.zero_mul _)).trans (Nat.zero_add _)

theorem kvh_apply (c : Dev nD) (s b t : Fin 2) (h : Fin 8) (j : Fin 512) (d : Fin 64) :
    kvh m ρ c s b t h (ix5 0 0 0 j d) = KV m ρ c (ix5 s b t j (column h d)) := by
  refine congrArg (KV m ρ c) (funext fun a => Fin.ext ?_)
  match a with
  | ⟨0, _⟩ => rfl
  | ⟨1, _⟩ => rfl
  | ⟨2, _⟩ => rfl
  | ⟨3, _⟩ => exact (Nat.zero_add _).trans (Nat.one_mul _)
  | ⟨4, _⟩ => exact congrArg (64 * h.val + ·) (Nat.one_mul _)
theorem kvh_key (c : Dev nD) (s b : Fin 2) (h : Fin 8) (j : Fin 512) (d : Fin 64) :
    kvh m ρ c s b 0 h (ix5 0 0 0 j d) = m ((owner c s b : Thread nD τ).loc main_arg1) (ix3 b j (column h d)) := by
  rw [← kst_apply m ρ, kvh_apply]
  exact if_pos rfl
theorem kvh_value (c : Dev nD) (s b : Fin 2) (h : Fin 8) (j : Fin 512) (d : Fin 64) :
    kvh m ρ c s b 1 h (ix5 0 0 0 j d) = m ((owner c s b : Thread nD τ).loc main_arg2) (ix3 b j (column h d)) := by
  rw [← vst_apply m ρ, kvh_apply]
  exact if_neg Nat.one_ne_zero

/-- The half of the sequence a device holds. -/
def row (c : Dev nD) : Fin 2 := ⟨c.val / 2, by have : c.val < 4 := c.isLt; omega⟩

theorem row_other (c : Dev nD) (b : Fin 2) : row (owner c 1 b) = 1 - row c := by revert c b; decide

end Run

set_option maxRecDepth 16384

theorem pay2_apply (q : FVec Ideal S512x64 .bf16) (k v : Vec Ideal S1x1x1x512x64 .bf16) (r : Fin 512) (l : Fin 64) :
    k0_pay2 q k v (ix2 r l) = ∑ j : Fin 512, Ideal.exp (∑ d : Fin 64, q (ix2 r d) * k (ix5 0 0 0 j d)) * v (ix5 0 0 0 j l) := by
  pointwise [k0_pay2, k0_pay1]

theorem pay3_apply (q : FVec Ideal S512x64 .bf16) (k : Vec Ideal S1x1x1x512x64 .bf16) (r : Fin 512) (l : Fin 8) :
    k0_pay3 k0_pay142 q k (ix2 r l) = ∑ j : Fin 512, Ideal.exp (∑ d : Fin 64, q (ix2 r d) * k (ix5 0 0 0 j d)) * 1 := by
  pointwise [k0_pay3, k0_pay1, k0_pay142]

theorem pay143_apply (q : Vec Ideal S1x512x64 .bf16) (r : Fin 512) (d : Fin 64) : k0_pay143 q (ix2 r d) = q (ix3 0 r d) * scale := by
  pointwise [k0_pay143]
  rw [scale_bf16]

theorem pay26_apply (a a' : FVec Ideal S512x64 .f32) (d d' : FVec Ideal S512x8 .f32) (r : Fin 512) (l : Fin 64) :
    k0_pay26 a d a' d' (ix3 0 r l) = Ideal.div (a (ix2 r l) + a' (ix2 r l)) (d (ix2 r 0) + d' (ix2 r 0)) := by
  pointwise [k0_pay26]

section Result

variable (m : (ℓ : Loc nD τ sig) → Buf (Elt Ideal) ℓ) (ρ : Dev nD → PrngReg)

/-- A device's queries, as numbers. -/
abbrev queries (c : Dev nD) : S2x512x512.Idx → EReal := m ((c : Thread nD τ).loc main_arg0)

theorem qh_apply (c : Dev nD) (b : Fin 2) (h : Fin 8) (r : Fin 512) (d : Fin 64) :
    qh m ρ c b h (ix2 r d) = queries m c (ix3 b r (column h d)) * scale := by
  unfold qh queries
  rw [pay143_apply, ← qst_apply m ρ]
  refine congrArg (fun x : EReal => x * scale) (congrArg (qst m ρ c) (funext fun a => Fin.ext ?_))
  match a with
  | ⟨0, _⟩ => rfl
  | ⟨1, _⟩ => exact (Nat.zero_add _).trans (Nat.one_mul _)
  | ⟨2, _⟩ => exact congrArg (64 * h.val + ·) (Nat.one_mul _)

theorem acch_apply (c : Dev nD) (s b : Fin 2) (h : Fin 8) (r : Fin 512) (l : Fin 64) :
    acch m ρ c s b h (ix2 r l) = part (fun d => m ((c : Thread nD τ).loc main_arg0) (ix3 b r (column h d)))
      (fun j d => m ((owner c s b : Thread nD τ).loc main_arg1) (ix3 b j (column h d)))
      (fun j => m ((owner c s b : Thread nD τ).loc main_arg2) (ix3 b j (column h l))) := by
  unfold acch part
  simp only [pay2_apply, qh_apply, kvh_key, kvh_value]

theorem denh_apply (c : Dev nD) (s b : Fin 2) (h : Fin 8) (r : Fin 512) (l : Fin 8) :
    denh m ρ c s b h (ix2 r l) = part (fun d => m ((c : Thread nD τ).loc main_arg0) (ix3 b r (column h d)))
      (fun j d => m ((owner c s b : Thread nD τ).loc main_arg1) (ix3 b j (column h d))) (fun _ => 1) := by
  unfold denh part
  simp only [pay3_apply, qh_apply, kvh_key]

/-- The kernel's result is the attention over the whole sequence, where queries and keys are finite. -/
theorem outAt_apply (q k v : (⟨3, ![2, 1024, 512]⟩ : Shape).Idx → EReal)
    (hq : ∀ (c : Dev nD) b r w, m ((c : Thread nD τ).loc main_arg0) (ix3 b r w) = q (ix3 b (key (row c) r) w))
    (hk : ∀ (c : Dev nD) b r w, m ((c : Thread nD τ).loc main_arg1) (ix3 b r w) = k (ix3 b (key (row c) r) w))
    (hv : ∀ (c : Dev nD) b r w, m ((c : Thread nD τ).loc main_arg2) (ix3 b r w) = v (ix3 b (key (row c) r) w))
    (fq : ∀ i, ∃ a : ℝ, q i = a) (fk : ∀ i, ∃ a : ℝ, k i = a) (c : Dev nD) (b : Fin 2) (r : Fin 512) (h : Fin 8) (l : Fin 64) :
    outAt m ρ c (ix3 b r (column h l)) = attend (fun d => q (ix3 b (key (row c) r) (column h d)))
      (fun n d => k (ix3 b n (column h d))) (fun n => v (ix3 b n (column h l))) := by
  have e1 : hd (ix3 b r (column h l)) = h := Fin.ext (show (64 * h.val + l.val) / 64 = h.val by omega)
  have e2 : lane (ix3 b r (column h l)) = l := Fin.ext (show (64 * h.val + l.val) % 64 = l.val by omega)
  show outblk m ρ c b (hd (ix3 b r (column h l))) (ix3 0 r (lane (ix3 b r (column h l)))) = _
  rw [e1, e2]
  unfold outblk
  rw [pay26_apply]
  simp only [acch_apply, denh_apply, hq, hk, hv]
  rw [← attend_halves (row c) _ _ _ (fun _ => fq _) (fun _ _ => fk _), ← row_other c b]
  rfl

end Result

end Cert.Kernel.Exchange

end
-- ==== Proof.Ref.lean ====
/-
# Ref — the run of the reference
-/
module

public import proofs.«01_k».proof.ReferenceIdeal
public import proofs.«01_k».proof.Proof.Gen.ReferenceIdeal
public import Idealize.ShloMosaic.Lib.Claim
public import Idealize.ShloMosaic.PureOps.Ideal
public import Idealize.ShloMosaic.Lib.Quiescent

@[expose] public section

noncomputable section

namespace Cert.ReferenceIdeal.Attn

open Cert.ReferenceIdeal Cert.ReferenceIdeal.Facts₀ Cert.ReferenceIdeal.Facts

open Idealize.ShloMosaic Idealize.ShloMosaic.TcCoe Idealize.SL.Sem

abbrev Arr := FVec Ideal S2x1024x512 .bf16
abbrev Sq := FVec Ideal S2x8x1024x1024 .f32

/-- An argument, split into heads. -/
def heads (x : Arr) : FVec Ideal S2x1024x8x64 .f32 := shapeCast S2x1024x8x64 (extf .f32 x bitsLt_bf16_f32) shapeCasts_S2x1024x512_S2x1024x8x64
/-- The scores. -/
def scores (q k : Arr) : Sq :=
  mulf (Host.dotGeneral dot_S2x1024x8x64_S2x1024x8x64_S2x8x1024x1024_3_3_1_1_02_02 none (heads q) (heads k))
    (broadcastInDim S2x8x1024x1024 ![] bcast_S_S2x8x1024x1024 (constant (F := Ideal) S_ .f32 0x3E000000#32))
/-- A number per row of scores, at every score of the row. -/
def rows (x : FVec Ideal S2x8x1024 .f32) : Sq :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)
/-- The exponentials of the scores, each row's maximum subtracted. -/
def exps (q k : Arr) : Sq :=
  Host.exp (subf (scores q k) (rows (Host.reduce FloatOps.maximumf (scores q k) (constant (F := Ideal) S_ .f32 0xFF800000#32) reducesTo_S2x8x1024x1024_S2x8x1024_d3 h_S_)))
/-- The weights. -/
def weights (q k : Arr) : Sq :=
  Host.divf (exps q k) (rows (Host.reduceAdd (exps q k) (constant (F := Ideal) S_ .f32 0x00000000#32) reducesTo_S2x8x1024x1024_S2x8x1024_d3 h_S_))
/-- The result. -/
def result (q k v : Arr) : FVec Ideal S2x1024x512 .f32 :=
  shapeCast S2x1024x512 (transpose S2x1024x8x64 [0, 3, 1, 2]
    (Host.dotGeneral dot_S2x1024x8x64_S2x8x1024x1024_S2x8x64x1024_1_3_3_2_02_01 none (heads v) (weights q k))
    transposes_S2x8x64x1024_S2x1024x8x64_0_3_1_2) shapeCasts_S2x1024x8x64_S2x1024x512

theorem run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v20) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · refine fun c => ⟨?_, trivial, trivial, trivial⟩
    rfl
  · exact sem_eq_zero_of_no_sems rfl _

end Cert.ReferenceIdeal.Attn

end
-- ==== Proof.RefValue.lean ====
/-
# RefValue — the reference's result, element by element
-/
module

public import proofs.«01_k».proof.Proof.Ref
public import proofs.«01_k».proof.Proof.Softmax
public import Idealize.ShloMosaic.Lib.Pointwise

@[expose] public section

noncomputable section

namespace Cert.ReferenceIdeal.Attn

open Cert.ReferenceIdeal Cert.Softmax

open Idealize.ShloMosaic

theorem heads_apply (x : Arr) (b : Fin 2) (n : Fin 1024) (h : Fin 8) (d : Fin 64) : heads x (ix4 b n h d) = x (ix3 b n (column h d)) := by
  pointwise [heads]
  exact congrArg (fun w => x (ix3 b n w)) (Fin.ext (congrArg (· + d.val) (Nat.mul_comm _ _)))

theorem scores_apply (q k : Arr) (b : Fin 2) (h : Fin 8) (n i : Fin 1024) :
    scores q k (ix4 b h n i) = score (fun d => q (ix3 b n (column h d))) (fun d => k (ix3 b i (column h d))) := by
  pointwise [scores]
  simp only [scale_f32, heads_apply]
  rfl

theorem exps_apply (q k : Arr) (b : Fin 2) (h : Fin 8) (n i : Fin 1024) :
    exps q k (ix4 b h n i) = Ideal.exp (scores q k (ix4 b h n i) - Finset.univ.fold max ⊥ fun i => scores q k (ix4 b h n i)) := by
  pointwise [exps, rows]
  rw [bot_f32]

theorem weights_apply (q k : Arr) (b : Fin 2) (h : Fin 8) (n i : Fin 1024) :
    weights q k (ix4 b h n i) = Ideal.div (exps q k (ix4 b h n i)) (∑ i, exps q k (ix4 b h n i)) := by
  pointwise [weights, rows]

/-- Each element of the reference's result is the attention of its query. -/
theorem result_apply (q k v : Arr) (b : Fin 2) (n : Fin 1024) (h : Fin 8) (l : Fin 64) :
    result q k v (ix3 b n (column h l)) = attend (fun d => q (ix3 b n (column h d)))
      (fun i d => k (ix3 b i (column h d))) (fun i => v (ix3 b i (column h l))) := by
  have e1 : (⟨(column h l).val / 64, by have := (column h l).isLt; omega⟩ : Fin 8) = h := Fin.ext (show (64 * h.val + l.val) / 64 = h.val by omega)
  have e2 : (⟨(column h l).val % 64, Nat.mod_lt _ (by decide)⟩ : Fin 64) = l := Fin.ext (show (64 * h.val + l.val) % 64 = l.val by omega)
  pointwise [result]
  rw [e1, e2]
  simp only [heads_apply, weights_apply, exps_apply, scores_apply]
  rfl

end Cert.ReferenceIdeal.Attn

end
-- ==== Proof.Finite.lean ====
/-
# Finite — the precondition, opened
-/
module

public import proofs.«01_k».proof.Pre_finite_KernelIdeal
public import proofs.«01_k».proof.Pre_finite_ReferenceIdeal
public import proofs.«01_k».proof.Proof.Softmax
public import Idealize.ShloMosaic.Lib.ReduceAll
public import Idealize.ShloMosaic.Lib.Affine

@[expose] public section

noncomputable section

open Idealize.ShloMosaic

instance Cert.Pre_finite_KernelIdeal.facts : Cert.Pre_finite_KernelIdeal.Facts where
  bcast_S_S2x512x512 := by decide
  reducesTo_S2x512x512_S_d0_1_2 := by decide
  h_S_ := by decide

instance Cert.Pre_finite_ReferenceIdeal.facts : Cert.Pre_finite_ReferenceIdeal.Facts where
  bcast_S_S2x1024x512 := by decide
  reducesTo_S2x1024x512_S_d0_1_2 := by decide
  h_S_ := by decide

namespace Cert.Pre_finite_KernelIdeal

open Facts

theorem finite_of_lt {x : EReal} (h : max x (-x) < ⊤) : ∃ a : ℝ, x = a := by
  refine ⟨x.toReal, (EReal.coe_toReal (fun e => ?_) (fun e => ?_)).symm⟩ <;> subst e <;> simp at h

theorem finite_of_all (x : FVec Ideal S2x512x512 .bf16) (j : S_.Idx)
    (h : Host.reduce IntOp.andi (cmpf .olt (Host.absf x) (broadcastInDim S2x512x512 ![] bcast_S_S2x512x512 (constant (F := Ideal) S_ .bf16 0x7F80#16)))
      (constantI S_ 1 1#1) reducesTo_S2x512x512_S_d0_1_2 h_S_ j = 1#1) (i : S2x512x512.Idx) : ∃ a : ℝ, x i = a := by
  haveI : Subsingleton S_.Idx := ⟨fun a b => funext fun d => d.elim0⟩
  have h := Host.reduce_andi_all _ _ _ _ _ h i
  refine finite_of_lt ?_
  change Ideal.cmp .olt (max (x i) (-x i)) (Ideal.ofBits .bf16 0x7F80#16) = 1#1 at h
  rw [Cert.Softmax.top_bf16] at h
  by_contra hn
  simp [Ideal.cmp, hn] at h

/-- Every element is a real number. -/
def Finite (x : S2x512x512.Idx → EReal) : Prop := ∀ i, ∃ a : ℝ, x i = a

/-- Under the precondition the queries and the keys are finite. -/
theorem finite_args (q k v : FVec Ideal S2x512x512 .bf16) (h : fn (F := Ideal) q k v = fun _ => 1#1) :
    Finite q ∧ Finite k := by
  have h := IntOp.andi_eq_one.1 (congrFun h (Shape.Idx.first h_S_))
  exact ⟨finite_of_all q _ h.1, finite_of_all k _ h.2⟩

end Cert.Pre_finite_KernelIdeal

end
-- ==== Proof.lean ====
/-
# The claim

The kernel's run is `Proof/Launch.lean`, read at the idealized program through `Proof/Same.lean`; the reference's run is
`Proof/Ref.lean`. Their results are read at an index in `Proof/Value.lean` and `Proof/RefValue.lean`: both are
`Softmax.attend` of the whole arrays.
-/
module

public import proofs.«01_k».proof.Defs
public import proofs.«01_k».proof.Proof.Same
public import proofs.«01_k».proof.Proof.Value
public import proofs.«01_k».proof.Proof.RefValue
public import proofs.«01_k».proof.Proof.Finite
public import Idealize.ShloMosaic.Lib.LayoutAt

@[expose] public section

noncomputable section

namespace Cert.Proof

open Idealize.ShloMosaic Idealize.ShloMosaic.TcCoe Idealize.SL.Sem Cert.Softmax

open Cert.Pre_finite_KernelIdeal (Finite)
open Cert.Kernel.Exchange (row outAt outAt_apply finalA_out finalA_in run_main run_ideal)

/-- A device's block of a whole array. -/
abbrev blockOf {α : Type} (c : Fin 4) (x : (⟨3, ![2, 1024, 512]⟩ : Shape).Idx → α) : (⟨3, ![2, 512, 512]⟩ : Shape).Idx → α :=
  Layout.blockN ⟨3, ![2, 512, 512]⟩ ⟨3, ![2, 1024, 512]⟩ (Layout.meshBlock [2, 2] ![[], [0], []] c) x

theorem block_at (c : Fin 4) (b : Fin 3) : ((Layout.meshBlock [2, 2] ![[], [0], []] c) b).val = if b = 1 then c.val / 2 else 0 := by
  revert c b; decide

theorem blockOf_apply {α : Type} (c : Fin 4) (x : (⟨3, ![2, 1024, 512]⟩ : Shape).Idx → α) (b : Fin 2) (r w : Fin 512) :
    blockOf c x (ix3 b r w) = x (ix3 b (key (row c) r) w) := by
  have h0 := block_at c 0
  have h1 := block_at c 1
  have h2 := block_at c 2
  unfold blockOf
  rw [Layout.blockN_apply]
  refine congrArg x (funext fun a => Fin.ext ?_)
  rw [Layout.TilesN.idx_val]
  match a with
  | ⟨0, _⟩ =>
    show ((Layout.meshBlock [2, 2] ![[], [0], []] c) 0).val * 2 + b.val = b.val
    rw [h0, if_neg (by decide), Nat.zero_mul, Nat.zero_add]
  | ⟨1, _⟩ =>
    show ((Layout.meshBlock [2, 2] ![[], [0], []] c) 1).val * 512 + r.val = 512 * (c.val / 2) + r.val
    rw [h1, if_pos rfl, Nat.mul_comm]
  | ⟨2, _⟩ =>
    show ((Layout.meshBlock [2, 2] ![[], [0], []] c) 2).val * 512 + w.val = w.val
    rw [h2, if_neg (by decide), Nat.zero_mul, Nat.zero_add]

/-- Every index of a whole array is an index of some device's block. -/
theorem exists_block (i : (⟨3, ![2, 1024, 512]⟩ : Shape).Idx) : ∃ (c : Fin 4) (b : Fin 2) (r w : Fin 512), i = ix3 b (key (row c) r) w := by
  have h : (i 1).val < 1024 := (i 1).isLt
  refine ⟨⟨2 * ((i 1).val / 512), by omega⟩, i 0, ⟨(i 1).val % 512, Nat.mod_lt _ (by decide)⟩, i 2, funext fun a => Fin.ext ?_⟩
  match a with
  | ⟨0, _⟩ => rfl
  | ⟨1, _⟩ => show (i 1).val = 512 * (2 * ((i 1).val / 512) / 2) + (i 1).val % 512; omega
  | ⟨2, _⟩ => rfl

theorem column_split (w : Fin 512) : ∃ (h : Fin 8) (l : Fin 64), w = column h l :=
  ⟨⟨w.val / 64, by omega⟩, ⟨w.val % 64, by omega⟩, Fin.ext (show w.val = 64 * (w.val / 64) + w.val % 64 by omega)⟩

/-- The kernel's result on a device is its block of the reference's, where queries and keys are finite. -/
theorem result_block (m : (ℓ : Loc Cert.Kernel.nD Cert.Kernel.τ Cert.Kernel.sig) → Buf (Elt Ideal) ℓ) (g : Dev Cert.Kernel.nD → PrngReg)
    (q k v : Cert.ReferenceIdeal.Attn.Arr)
    (hq : ∀ c : Dev Cert.Kernel.nD, m ((c.tc : Thread Cert.Kernel.nD Cert.Kernel.τ).loc Cert.Kernel.main_arg0) = blockOf c q)
    (hk : ∀ c : Dev Cert.Kernel.nD, m ((c.tc : Thread Cert.Kernel.nD Cert.Kernel.τ).loc Cert.Kernel.main_arg1) = blockOf c k)
    (hv : ∀ c : Dev Cert.Kernel.nD, m ((c.tc : Thread Cert.Kernel.nD Cert.Kernel.τ).loc Cert.Kernel.main_arg2) = blockOf c v)
    (fin : ∀ c : Dev Cert.Kernel.nD, Finite (m ((c.tc : Thread Cert.Kernel.nD Cert.Kernel.τ).loc Cert.Kernel.main_arg0))
      ∧ Finite (m ((c.tc : Thread Cert.Kernel.nD Cert.Kernel.τ).loc Cert.Kernel.main_arg1))) (c : Dev Cert.Kernel.nD) :
    outAt m g c = blockOf c (Cert.ReferenceIdeal.Attn.result q k v) := by
  have fq : ∀ i, ∃ a : ℝ, q i = a := fun i => by
    obtain ⟨c, b, r, w, rfl⟩ := exists_block i
    exact ((fin c).1 (ix3 b r w)).imp fun a e => ((congrFun (hq c) _).trans (blockOf_apply c q b r w)).symm.trans e
  have fk : ∀ i, ∃ a : ℝ, k i = a := fun i => by
    obtain ⟨c, b, r, w, rfl⟩ := exists_block i
    exact ((fin c).2 (ix3 b r w)).imp fun a e => ((congrFun (hk c) _).trans (blockOf_apply c k b r w)).symm.trans e
  funext (i : (⟨3, ![2, 512, 512]⟩ : Shape).Idx)
  obtain ⟨b, r, w, rfl⟩ : ∃ (b : Fin 2) (r w : Fin 512), i = ix3 b r w := ⟨i 0, i 1, i 2, funext fun a => by match a with | ⟨0, _⟩ | ⟨1, _⟩ | ⟨2, _⟩ => rfl⟩
  obtain ⟨h, l, rfl⟩ := column_split w
  refine (outAt_apply m g q k v (fun c b r w => ?_) (fun c b r w => ?_) (fun c b r w => ?_) fq fk c b r h l).trans ?_
  · exact (congrFun (hq c) _).trans (blockOf_apply c q b r w)
  · exact (congrFun (hk c) _).trans (blockOf_apply c k b r w)
  · exact (congrFun (hv c) _).trans (blockOf_apply c v b r w)
  · exact ((blockOf_apply c _ b r _).trans (Cert.ReferenceIdeal.Attn.result_apply q k v b _ h l)).symm

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  fun m g _ => Cert.Kernel.Exchange.run_frame m g,
  fun m g _ => run_ideal (Cert.Kernel.Exchange.run_frame m g),
  fun m g _ => run_ideal (Cert.Kernel.Exchange.run_frame m g),
  fun m g _ => (θ_run _ _ _).mono (fun r h => ⟨fun c => (h.1 c).2, h.2⟩) (Cert.ReferenceIdeal.Attn.run m g),
  fun m g _ => (θ_run _ _ _).mono (fun r h => ⟨fun c => (h.1 c).2, h.2⟩) (Cert.ReferenceIdeal.Attn.run m g),
  trivial,
  fun m g m' g' hpre hblk => ⟨_,
    run_ideal ((θ_run _ _ _).mono (fun r h c => ⟨(h.1 c (3 : Fin 4)).trans ((finalA_out m g c).trans
        (result_block m g _ _ _ (fun c => (hblk c).1) (fun c => (hblk c).2.1) (fun c => (hblk c).2.2)
          (fun c => Cert.Pre_finite_KernelIdeal.finite_args _ _ _ (hpre c)) c)),
      (h.1 c (0 : Fin 4)).trans (finalA_in m g c (0 : Fin 4) rfl), (h.1 c (1 : Fin 4)).trans (finalA_in m g c (1 : Fin 4) rfl),
      (h.1 c (2 : Fin 4)).trans (finalA_in m g c (2 : Fin 4) rfl)⟩) (run_main m g)),
    (θ_run _ _ _).mono (fun r h => h.1 0) (Cert.ReferenceIdeal.Attn.run m' g')⟩⟩

end Cert.Proof

end
